-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norms_below [hPre_norms_below : Cert.Pre_norms_below.Facts] (m : (ℓ : Loc Cert.KernelIdeal.nD Cert.KernelIdeal.τ Cert.KernelIdeal.sig) → Buf (Elt Ideal) ℓ) : Prop :=
  ∀ c : Dev Cert.KernelIdeal.nD,
    (Cert.Pre_norms_below.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norms_below [hPre_norms_below : Cert.Pre_norms_below.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norms_below.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_norms_below [hKernelIdeal : Cert.KernelIdeal.Facts] [hPre_norms_below : Cert.Pre_norms_below.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norms_below m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_norms_below [hReferenceIdeal : Cert.ReferenceIdeal.Facts] [hPre_norms_below : Cert.Pre_norms_below.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norms_below m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_norms_below [hKernelIdeal : Cert.KernelIdeal.Facts] [hReferenceIdeal : Cert.ReferenceIdeal.Facts] [hPre_norms_below : Cert.Pre_norms_below.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norms_below m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_norms_below : Cert.Pre_norms_below.Facts),
    quiescent_Kernel (hKernel := hKernel)
    ∧ quiescent_KernelIdeal (hKernelIdeal := hKernelIdeal)
    ∧ quiescent_KernelIdeal_pre_norms_below (hKernelIdeal := hKernelIdeal) (hPre_norms_below := hPre_norms_below)
    ∧ quiescent_ReferenceIdeal (hReferenceIdeal := hReferenceIdeal)
    ∧ quiescent_ReferenceIdeal_pre_norms_below (hReferenceIdeal := hReferenceIdeal) (hPre_norms_below := hPre_norms_below)
    ∧ preserves_Kernel_KernelIdeal
    ∧ algebraic_KernelIdeal_ReferenceIdeal_pre_norms_below (hKernelIdeal := hKernelIdeal) (hReferenceIdeal := hReferenceIdeal) (hPre_norms_below := hPre_norms_below)
-- ==== Pre_norms_below.lean ====
abbrev S4096x64 : Shape := ⟨2, ![4096, 64]⟩
abbrev S4096 : Shape := ⟨1, ![4096]⟩
abbrev S_ : Shape := ⟨0, ![]⟩

class Facts : Prop where
  reducesTo_S4096x64_S4096_d1 : S4096x64.ReducesTo [1] S4096
  h_S_ : 0 < S_.numel
  bcast_S_S4096 : S_.BroadcastsInDim S4096 (![] : Fin 0 → Fin S4096.rank)

variable [Facts]

def fn {F : FTy → Type} [FloatOps F] (main_arg0 : FVec F S4096x64 .f32) (main_arg1 : IVec S4096 32) : IVec S4096 1 :=
  let main_v0 : FVec F S4096x64 .f32 := mulf main_arg0 main_arg0
  let main_cst : FVec F S_ .f32 := constant S_ .f32 0x00000000#32
  let main_v1 : FVec F S4096 .f32 := (fun x v => Host.reduceAdd x v reducesTo_S4096x64_S4096_d1 h_S_) main_v0 main_cst
  let main_cst_0 : FVec F S_ .f32 := constant S_ .f32 0x4E6E6B28#32
  let main_v2 : FVec F S4096 .f32 := broadcastInDim S4096 ![] bcast_S_S4096 main_cst_0
  let main_v3 : IVec S4096 1 := cmpf .olt main_v1 main_v2
  main_v3
-- ==== Kernel.lean ====
abbrev S4096x64 : Shape := ⟨2, ![4096, 64]⟩
abbrev S4096 : Shape := ⟨1, ![4096]⟩
abbrev S64x4096 : Shape := ⟨2, ![64, 4096]⟩
abbrev S4096x1 : Shape := ⟨2, ![4096, 1]⟩
abbrev S1x4096 : Shape := ⟨2, ![1, 4096]⟩
abbrev S1 : Shape := ⟨1, ![1]⟩
abbrev S256x64 : Shape := ⟨2, ![256, 64]⟩
abbrev S256x1 : Shape := ⟨2, ![256, 1]⟩
abbrev S2 : Shape := ⟨1, ![2]⟩
abbrev S256x4096 : Shape := ⟨2, ![256, 4096]⟩
abbrev S256 : Shape := ⟨1, ![256]⟩
abbrev S256x128 : Shape := ⟨2, ![256, 128]⟩
abbrev S256x16 : Shape := ⟨2, ![256, 16]⟩
abbrev S256x17 : Shape := ⟨2, ![256, 17]⟩
abbrev S256x2 : Shape := ⟨2, ![256, 2]⟩
abbrev S256x18 : Shape := ⟨2, ![256, 18]⟩
abbrev S256x4 : Shape := ⟨2, ![256, 4]⟩
abbrev S256x20 : Shape := ⟨2, ![256, 20]⟩
abbrev S256x8 : Shape := ⟨2, ![256, 8]⟩
abbrev S256x24 : Shape := ⟨2, ![256, 24]⟩
abbrev S1x256x1 : Shape := ⟨3, ![1, 256, 1]⟩
abbrev S1x1x1 : Shape := ⟨3, ![1, 1, 1]⟩

abbrev nBuf : Space → Nat
  | .hbm => 6
  | .vmem => 6
  | .smem => 2
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S64x4096, .f32⟩
  | .hbm, ⟨3, _⟩ => ⟨S4096x1, .i32⟩
  | .hbm, ⟨4, _⟩ => ⟨S1x4096, .i32⟩
  | .hbm, ⟨5, _⟩ => ⟨S1, .f32⟩
  | .local _ .vmem, ⟨0, _⟩ => ⟨S256x64, .f32⟩
  | .local _ .vmem, ⟨1, _⟩ => ⟨S256x64, .f32⟩
  | .local _ .vmem, ⟨2, _⟩ => ⟨S64x4096, .f32⟩
  | .local _ .vmem, ⟨3, _⟩ => ⟨S256x1, .i32⟩
  | .local _ .vmem, ⟨4, _⟩ => ⟨S256x1, .i32⟩
  | .local _ .vmem, ⟨5, _⟩ => ⟨S1x4096, .i32⟩
  | .local _ .smem, ⟨0, _⟩ => ⟨S1, .f32⟩
  | .local _ .smem, ⟨1, _⟩ => ⟨S2, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v738 : BitVec 1 := Scalar.cmpi .eq arg0 c15_i32
  let v739 : BitVec 32 := Scalar.extui v738
  let c0_i32_76 : BitVec 32 := 0#32
  let v740 : BitVec 1 := Scalar.cmpi .ne v739 c0_i32_76
  v740

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x64 : Shape := ⟨2, ![4096, 64]⟩
abbrev S4096 : Shape := ⟨1, ![4096]⟩
abbrev S64x4096 : Shape := ⟨2, ![64, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩
abbrev S4096x16 : Shape := ⟨2, ![4096, 16]⟩
abbrev S1 : Shape := ⟨1, ![1]⟩

abbrev nBuf : Space → Nat
  | .hbm => 97
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S64x4096, .f32⟩
  | .hbm, ⟨3, _⟩ => ⟨S4096x4096, .f32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096x4096, .i1⟩
  | .hbm, ⟨16, _⟩ => ⟨S4096x4096, .i1⟩
  | .hbm, ⟨17, _⟩ => ⟨S4096x4096, .i1⟩
  | .hbm, ⟨18, _⟩ => ⟨S4096x4096, .i1⟩
  | .hbm, ⟨19, _⟩ => ⟨S4096x4096, .i1⟩
  | .hbm, ⟨20, _⟩ => ⟨S4096x4096, .i32⟩
  | .hbm, ⟨21, _⟩ => ⟨S_, .i32⟩
  | .hbm, ⟨22, _⟩ => ⟨S4096, .i32⟩
  | .hbm, ⟨23, _⟩ => ⟨S4096x4096, .i32⟩
  | .hbm, ⟨24, _⟩ => ⟨S_, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .i1⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x4096, .f32⟩
  | .hbm, ⟨41, _⟩ => ⟨S4096x4096, .i1⟩
  | .hbm, ⟨42, _⟩ => ⟨S4096x4096, .i1⟩
  | .hbm, ⟨43, _⟩ => ⟨S_, .i1⟩
  | .hbm, ⟨44, _⟩ => ⟨S4096, .i1⟩
  | .hbm, ⟨45, _⟩ => ⟨S4096x1, .i1⟩
  | .hbm, ⟨46, _⟩ => ⟨S4096x4096, .i1⟩
  | .hbm, ⟨47, _⟩ => ⟨S4096x4096, .i1⟩
  | .hbm, ⟨48, _⟩ => ⟨S_, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x16, .f32⟩
  | .hbm, ⟨53, _⟩ => ⟨S4096x16, .i32⟩
  | .hbm, ⟨54, _⟩ => ⟨S_, .f32⟩
  | .hbm, ⟨55, _⟩ => ⟨S4096x16, .f32⟩
  | .hbm, ⟨56, _⟩ => ⟨S4096x16, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096, .f32⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S4096, .i32⟩
  | .hbm, ⟨84, _⟩ => ⟨S_, .i32⟩
  | .hbm, ⟨85, _⟩ => ⟨S_, .i32⟩
  | .hbm, ⟨86, _⟩ => ⟨S_, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S_, .f32⟩
  | .hbm, ⟨91, _⟩ => ⟨S_, .f32⟩
  | .hbm, ⟨92, _⟩ => ⟨S_, .i32⟩
  | .hbm, ⟨93, _⟩ => ⟨S_, .i32⟩
  | .hbm, ⟨94, _⟩ => ⟨S_, .f32⟩
  | .hbm, ⟨95, _⟩ => ⟨S_, .f32⟩
  | .hbm, ⟨96, _⟩ => ⟨S1, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_c_1 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_v22 : Ref sig .tc := ⟨.hbm, 28, rfl⟩
abbrev main_c_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_call1_v0 : Ref sig .tc := ⟨.hbm, 46, rfl⟩
abbrev main_v34 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_v35 : Ref sig .tc := ⟨.hbm, 51, rfl⟩
abbrev main_values : Ref sig .tc := ⟨.hbm, 52, rfl⟩
abbrev main_indices : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_call3_v0 : Ref sig .tc := ⟨.hbm, 68, rfl⟩
abbrev main_call3_v1 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_14 : Ref sig .tc := ⟨.hbm, 84, rfl⟩
abbrev main_v57 : Ref sig .tc := ⟨.hbm, 85, rfl⟩
abbrev main_cst_15 : Ref sig .tc := ⟨.hbm, 86, rfl⟩
abbrev main_call4_v0 : Ref sig .tc := ⟨.hbm, 87, rfl⟩
abbrev main_call4_v1 : Ref sig .tc := ⟨.hbm, 88, rfl⟩
abbrev main_v58 : Ref sig .tc := ⟨.hbm, 89, rfl⟩
abbrev main_cst_16 : Ref sig .tc := ⟨.hbm, 90, rfl⟩
abbrev main_v59 : Ref sig .tc := ⟨.hbm, 91, rfl⟩
abbrev main_c_17 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]
-- ==== Proof.RefValue.lean ====
module

public import proofs.«01_k».proof.Proof.Gen.ReferenceIdeal.Read
-- ==== Proof.Stage.lean ====
module

public import proofs.«01_k».proof.Proof.Gen.KernelIdeal.Value
public import Idealize.ShloMosaic.Lib.ValueIdx
public import Idealize.ShloMosaic.PureOps.Ideal.Laws

/-!
The kernel's work on one block of rows, as a chain of stages.

The block's masked similarities are cut into thirty-two slots of 128 lanes; a comparator network
leaves the sixteen largest values of each lane in slots 0 to 15, and sixteen rounds then read off
the row's largest value and drop it from every lane whose head it is.  Each stage below takes the
vectors one part of the body leaves and gives the vectors of the next.
-/

@[expose] public section

set_option maxRecDepth 16384

noncomputable section

open Idealize.ShloMosaic Cert.KernelIdeal Cert.KernelIdeal.Gen

namespace Cert.Hard

/-- One slot: a value for each of the block's 256 rows and each of the 128 lanes. -/
abbrev Col := FVec Ideal S256x128 .f32

/-- One number for each row of the block. -/
abbrev Row1 := FVec Ideal S256x1 .f32

/-- A mark for each row and lane. -/
abbrev Hits := IVec S256x128 1

/-- The thirty-two slots after the first three comparators. -/
def stage2 (v6 : FVec Ideal S256x4096 .f32) (v13 : IVec S256x4096 1) (v21 : FVec Ideal S256x4096 .f32) :
    Fin 32 → Col :=
  ![k0_pay41 v6 v13 v21,
    k0_pay42 v6 v13 v21,
    k0_pay43 v6 v13 v21,
    k0_pay44 v6 v13 v21,
    k0_pay45 v6 v13 v21,
    k0_pay46 v6 v13 v21,
    k0_pay15 v6 v13 v21,
    k0_pay16 v6 v13 v21,
    k0_pay17 v6 v13 v21,
    k0_pay18 v6 v13 v21,
    k0_pay19 v6 v13 v21,
    k0_pay20 v6 v13 v21,
    k0_pay21 v6 v13 v21,
    k0_pay22 v6 v13 v21,
    k0_pay23 v6 v13 v21,
    k0_pay24 v6 v13 v21,
    k0_pay25 v6 v13 v21,
    k0_pay26 v6 v13 v21,
    k0_pay27 v6 v13 v21,
    k0_pay28 v6 v13 v21,
    k0_pay29 v6 v13 v21,
    k0_pay30 v6 v13 v21,
    k0_pay31 v6 v13 v21,
    k0_pay32 v6 v13 v21,
    k0_pay33 v6 v13 v21,
    k0_pay34 v6 v13 v21,
    k0_pay35 v6 v13 v21,
    k0_pay36 v6 v13 v21,
    k0_pay37 v6 v13 v21,
    k0_pay38 v6 v13 v21,
    k0_pay39 v6 v13 v21,
    k0_pay40 v6 v13 v21]

/-- The slots after comparators 3 to 32. -/
def stage3 (w : Fin 32 → Col) : Fin 32 → Col :=
  ![k0_pay73 (w 0) (w 2),
    k0_pay105 (w 0) (w 1) (w 2) (w 3),
    k0_pay106 (w 0) (w 1) (w 2) (w 3),
    k0_pay76 (w 1) (w 3),
    k0_pay77 (w 6) (w 7) (w 4),
    k0_pay79 (w 6) (w 7) (w 5),
    k0_pay78 (w 6) (w 7) (w 4),
    k0_pay80 (w 6) (w 7) (w 5),
    k0_pay81 (w 8) (w 9) (w 10) (w 11),
    k0_pay83 (w 8) (w 9) (w 10) (w 11),
    k0_pay82 (w 8) (w 9) (w 10) (w 11),
    k0_pay84 (w 8) (w 9) (w 10) (w 11),
    k0_pay85 (w 12) (w 13) (w 14) (w 15),
    k0_pay87 (w 12) (w 13) (w 14) (w 15),
    k0_pay86 (w 12) (w 13) (w 14) (w 15),
    k0_pay88 (w 12) (w 13) (w 14) (w 15),
    k0_pay89 (w 16) (w 17) (w 18) (w 19),
    k0_pay91 (w 16) (w 17) (w 18) (w 19),
    k0_pay90 (w 16) (w 17) (w 18) (w 19),
    k0_pay92 (w 16) (w 17) (w 18) (w 19),
    k0_pay93 (w 20) (w 21) (w 22) (w 23),
    k0_pay95 (w 20) (w 21) (w 22) (w 23),
    k0_pay94 (w 20) (w 21) (w 22) (w 23),
    k0_pay96 (w 20) (w 21) (w 22) (w 23),
    k0_pay97 (w 24) (w 25) (w 26) (w 27),
    k0_pay99 (w 24) (w 25) (w 26) (w 27),
    k0_pay98 (w 24) (w 25) (w 26) (w 27),
    k0_pay100 (w 24) (w 25) (w 26) (w 27),
    k0_pay101 (w 28) (w 29) (w 30) (w 31),
    k0_pay103 (w 28) (w 29) (w 30) (w 31),
    k0_pay102 (w 28) (w 29) (w 30) (w 31),
    k0_pay104 (w 28) (w 29) (w 30) (w 31)]

/-- The slots after comparators 33 to 62. -/
def stage4 (w : Fin 32 → Col) : Fin 32 → Col :=
  ![k0_pay121 (w 0) (w 4),
    k0_pay123 (w 6) (w 5) (w 1),
    k0_pay153 (w 0) (w 4) (w 6) (w 5) (w 2),
    k0_pay155 (w 3) (w 6) (w 5) (w 7) (w 1),
    k0_pay154 (w 0) (w 4) (w 6) (w 5) (w 2),
    k0_pay156 (w 3) (w 6) (w 5) (w 7) (w 1),
    k0_pay126 (w 6) (w 5) (w 2),
    k0_pay128 (w 3) (w 7),
    k0_pay129 (w 8) (w 12),
    k0_pay131 (w 10) (w 9) (w 14) (w 13),
    k0_pay157 (w 8) (w 10) (w 9) (w 12) (w 14) (w 13),
    k0_pay159 (w 10) (w 9) (w 11) (w 14) (w 13) (w 15),
    k0_pay158 (w 8) (w 10) (w 9) (w 12) (w 14) (w 13),
    k0_pay160 (w 10) (w 9) (w 11) (w 14) (w 13) (w 15),
    k0_pay134 (w 10) (w 9) (w 14) (w 13),
    k0_pay136 (w 11) (w 15),
    k0_pay137 (w 16) (w 20),
    k0_pay139 (w 18) (w 17) (w 22) (w 21),
    k0_pay161 (w 16) (w 18) (w 17) (w 20) (w 22) (w 21),
    k0_pay163 (w 18) (w 17) (w 19) (w 22) (w 21) (w 23),
    k0_pay162 (w 16) (w 18) (w 17) (w 20) (w 22) (w 21),
    k0_pay164 (w 18) (w 17) (w 19) (w 22) (w 21) (w 23),
    k0_pay142 (w 18) (w 17) (w 22) (w 21),
    k0_pay144 (w 19) (w 23),
    k0_pay145 (w 24) (w 28),
    k0_pay147 (w 26) (w 25) (w 30) (w 29),
    k0_pay165 (w 24) (w 26) (w 25) (w 28) (w 30) (w 29),
    k0_pay151 (w 27) (w 31),
    k0_pay166 (w 24) (w 26) (w 25) (w 28) (w 30) (w 29),
    k0_pay148 (w 26) (w 25) (w 30) (w 29),
    k0_pay150 (w 26) (w 25) (w 30) (w 29),
    k0_pay152 (w 27) (w 31)]

/-- The slots after comparators 63 to 92. -/
def stage5 (w : Fin 32 → Col) : Fin 32 → Col :=
  ![k0_pay193 (w 0) (w 8),
    k0_pay195 (w 1) (w 9) (w 2) (w 10),
    k0_pay197 (w 1) (w 9) (w 2) (w 10),
    k0_pay199 (w 4) (w 3) (w 12) (w 11),
    k0_pay225 (w 0) (w 8) (w 4) (w 3) (w 12) (w 11),
    k0_pay203 (w 6) (w 14) (w 5) (w 13),
    k0_pay205 (w 6) (w 14) (w 5) (w 13),
    k0_pay207 (w 7) (w 15),
    k0_pay226 (w 0) (w 8) (w 4) (w 3) (w 12) (w 11),
    k0_pay196 (w 1) (w 9) (w 2) (w 10),
    k0_pay198 (w 1) (w 9) (w 2) (w 10),
    k0_pay200 (w 4) (w 3) (w 12) (w 11),
    k0_pay202 (w 4) (w 3) (w 12) (w 11),
    k0_pay204 (w 6) (w 14) (w 5) (w 13),
    k0_pay206 (w 6) (w 14) (w 5) (w 13),
    k0_pay208 (w 7) (w 15),
    k0_pay209 (w 16) (w 24),
    k0_pay211 (w 17) (w 25) (w 18) (w 26),
    k0_pay213 (w 17) (w 25) (w 18) (w 26),
    k0_pay215 (w 29) (w 27) (w 20) (w 19) (w 28),
    k0_pay217 (w 29) (w 27) (w 20) (w 19) (w 28),
    k0_pay219 (w 22) (w 29) (w 30) (w 27) (w 21),
    k0_pay221 (w 22) (w 29) (w 30) (w 27) (w 21),
    k0_pay223 (w 23) (w 31),
    k0_pay210 (w 16) (w 24),
    k0_pay212 (w 17) (w 25) (w 18) (w 26),
    k0_pay214 (w 17) (w 25) (w 18) (w 26),
    k0_pay216 (w 29) (w 27) (w 20) (w 19) (w 28),
    k0_pay218 (w 29) (w 27) (w 20) (w 19) (w 28),
    k0_pay220 (w 22) (w 29) (w 30) (w 27) (w 21),
    k0_pay222 (w 22) (w 29) (w 30) (w 27) (w 21),
    k0_pay224 (w 23) (w 31)]

/-- The slots after comparators 93 to 122. -/
def stage6 (w : Fin 32 → Col) : Fin 32 → Col :=
  ![w 0,
    k0_pay265 (w 1) (w 2) (w 4),
    k0_pay266 (w 1) (w 2) (w 4),
    k0_pay267 (w 9) (w 2) (w 3) (w 5) (w 4),
    k0_pay268 (w 9) (w 2) (w 3) (w 5) (w 4),
    k0_pay269 (w 9) (w 10) (w 3) (w 5) (w 6) (w 8),
    k0_pay270 (w 9) (w 10) (w 3) (w 5) (w 6) (w 8),
    k0_pay271 (w 9) (w 10) (w 11) (w 5) (w 6) (w 7) (w 8),
    k0_pay272 (w 9) (w 10) (w 11) (w 5) (w 6) (w 7) (w 8),
    k0_pay273 (w 9) (w 10) (w 11) (w 12) (w 5) (w 6) (w 7),
    k0_pay274 (w 9) (w 10) (w 11) (w 12) (w 5) (w 6) (w 7),
    k0_pay275 (w 10) (w 11) (w 12) (w 13) (w 6) (w 7),
    k0_pay276 (w 10) (w 11) (w 12) (w 13) (w 6) (w 7),
    k0_pay277 (w 11) (w 13) (w 14) (w 7),
    k0_pay278 (w 11) (w 13) (w 14) (w 7),
    w 15,
    w 16,
    k0_pay279 (w 24) (w 17) (w 18) (w 20),
    k0_pay280 (w 24) (w 17) (w 18) (w 20),
    k0_pay281 (w 24) (w 25) (w 18) (w 19) (w 20) (w 21),
    k0_pay282 (w 24) (w 25) (w 18) (w 19) (w 20) (w 21),
    k0_pay283 (w 24) (w 25) (w 26) (w 19) (w 20) (w 21) (w 22),
    k0_pay284 (w 24) (w 25) (w 26) (w 19) (w 20) (w 21) (w 22),
    k0_pay285 (w 24) (w 25) (w 26) (w 27) (w 20) (w 21) (w 22) (w 23),
    k0_pay286 (w 24) (w 25) (w 26) (w 27) (w 20) (w 21) (w 22) (w 23),
    k0_pay260 (w 25) (w 27) (w 21) (w 23),
    k0_pay261 (w 26) (w 28) (w 22),
    k0_pay263 (w 27) (w 29) (w 23),
    k0_pay262 (w 26) (w 28) (w 22),
    k0_pay264 (w 27) (w 29) (w 23),
    w 30,
    w 31]

/-- The slots after comparators 123 to 159: only slots 0 to 17 are still needed. -/
def stage7 (w : Fin 32 → Col) : Fin 18 → Col :=
  ![k0_pay287 (w 0) (w 16),
    k0_pay289 (w 1) (w 17),
    k0_pay325 (w 0) (w 16) (w 2) (w 4) (w 8) (w 18) (w 20) (w 24),
    k0_pay327 (w 25) (w 26) (w 1) (w 3) (w 5) (w 9) (w 17) (w 19) (w 21),
    k0_pay326 (w 0) (w 16) (w 2) (w 4) (w 8) (w 18) (w 20) (w 24),
    k0_pay328 (w 25) (w 26) (w 1) (w 3) (w 5) (w 9) (w 17) (w 19) (w 21),
    k0_pay315 (w 25) (w 26) (w 2) (w 6) (w 10) (w 18) (w 22),
    k0_pay317 (w 28) (w 27) (w 3) (w 7) (w 11) (w 19) (w 23),
    k0_pay312 (w 0) (w 16) (w 4) (w 8) (w 20) (w 24),
    k0_pay314 (w 25) (w 26) (w 1) (w 5) (w 9) (w 17) (w 21),
    k0_pay316 (w 25) (w 26) (w 2) (w 6) (w 10) (w 18) (w 22),
    k0_pay318 (w 28) (w 27) (w 3) (w 7) (w 11) (w 19) (w 23),
    k0_pay319 (w 0) (w 16) (w 28) (w 27) (w 4) (w 8) (w 12) (w 20) (w 24),
    k0_pay321 (w 30) (w 25) (w 26) (w 29) (w 1) (w 5) (w 9) (w 13) (w 17) (w 21),
    k0_pay323 (w 30) (w 25) (w 26) (w 29) (w 2) (w 6) (w 10) (w 14) (w 18) (w 22),
    k0_pay324 (w 15) (w 31) (w 28) (w 27) (w 3) (w 7) (w 11) (w 19) (w 23),
    k0_pay320 (w 0) (w 16) (w 28) (w 27) (w 4) (w 8) (w 12) (w 20) (w 24),
    k0_pay322 (w 30) (w 25) (w 26) (w 29) (w 1) (w 5) (w 9) (w 13) (w 17) (w 21)]

/-- The last comparators and the first round: fifteen slots stay. -/
def stage8 (w : Fin 18 → Col) : Fin 15 → Col :=
  ![k0_pay355 (w 0) (w 1) (w 2),
    k0_pay356 (w 0) (w 1) (w 2),
    k0_pay357 (w 0) (w 1) (w 2) (w 4) (w 3),
    k0_pay358 (w 0) (w 4) (w 3),
    k0_pay359 (w 0) (w 8) (w 6) (w 4) (w 3) (w 5),
    k0_pay360 (w 0) (w 8) (w 6) (w 5),
    k0_pay361 (w 0) (w 8) (w 9) (w 6) (w 7) (w 5),
    k0_pay362 (w 0) (w 8) (w 9) (w 6) (w 7),
    k0_pay363 (w 0) (w 8) (w 9) (w 6) (w 10) (w 7) (w 12),
    k0_pay364 (w 0) (w 9) (w 10) (w 7) (w 12),
    k0_pay365 (w 0) (w 9) (w 10) (w 7) (w 11) (w 12) (w 13),
    k0_pay366 (w 0) (w 10) (w 11) (w 12) (w 13),
    k0_pay367 (w 0) (w 10) (w 11) (w 12) (w 16) (w 13) (w 14),
    k0_pay368 (w 0) (w 11) (w 16) (w 13) (w 14),
    k0_pay369 (w 0) (w 11) (w 16) (w 13) (w 17) (w 14) (w 15)]

/-- Rounds two to four, given which lanes round two pops: twelve slots stay. -/
def stage9 (w : Fin 15 → Col) (e : Hits) : Fin 12 → Col :=
  ![k0_pay405 (w 0) (w 1) (w 2) (w 3) e,
    k0_pay406 (w 0) (w 1) (w 2) (w 3) (w 4) e,
    k0_pay407 (w 0) (w 1) (w 2) (w 3) (w 4) (w 5) e,
    k0_pay408 (w 0) (w 1) (w 2) (w 3) (w 4) (w 5) (w 6) e,
    k0_pay409 (w 0) (w 1) (w 2) (w 4) (w 5) (w 6) (w 7) e,
    k0_pay410 (w 0) (w 1) (w 2) (w 5) (w 6) (w 7) (w 8) e,
    k0_pay411 (w 0) (w 1) (w 2) (w 6) (w 7) (w 8) (w 9) e,
    k0_pay412 (w 0) (w 1) (w 2) (w 7) (w 8) (w 9) (w 10) e,
    k0_pay413 (w 0) (w 1) (w 2) (w 8) (w 9) (w 10) (w 11) e,
    k0_pay414 (w 0) (w 1) (w 2) (w 9) (w 10) (w 11) (w 12) e,
    k0_pay415 (w 0) (w 1) (w 2) (w 10) (w 11) (w 12) (w 13) e,
    k0_pay416 (w 0) (w 1) (w 2) (w 11) (w 12) (w 13) (w 14) e]

/-- Rounds five to seven: nine slots stay. -/
def stage10 (w : Fin 12 → Col) : Fin 9 → Col :=
  ![k0_pay445 (w 0) (w 1) (w 2) (w 3),
    k0_pay446 (w 0) (w 1) (w 2) (w 3) (w 4),
    k0_pay447 (w 0) (w 1) (w 2) (w 3) (w 4) (w 5),
    k0_pay448 (w 0) (w 1) (w 2) (w 3) (w 4) (w 5) (w 6),
    k0_pay449 (w 0) (w 1) (w 2) (w 4) (w 5) (w 6) (w 7),
    k0_pay450 (w 0) (w 1) (w 2) (w 5) (w 6) (w 7) (w 8),
    k0_pay451 (w 0) (w 1) (w 2) (w 6) (w 7) (w 8) (w 9),
    k0_pay452 (w 0) (w 1) (w 2) (w 7) (w 8) (w 9) (w 10),
    k0_pay453 (w 0) (w 1) (w 2) (w 8) (w 9) (w 10) (w 11)]

/-- Rounds eight to ten: six slots stay. -/
def stage11 (w : Fin 9 → Col) : Fin 6 → Col :=
  ![k0_pay476 (w 0) (w 1) (w 2) (w 3),
    k0_pay477 (w 0) (w 1) (w 2) (w 3) (w 4),
    k0_pay478 (w 0) (w 1) (w 2) (w 3) (w 4) (w 5),
    k0_pay479 (w 0) (w 1) (w 2) (w 3) (w 4) (w 5) (w 6),
    k0_pay480 (w 0) (w 1) (w 2) (w 4) (w 5) (w 6) (w 7),
    k0_pay481 (w 0) (w 1) (w 2) (w 5) (w 6) (w 7) (w 8)]

/-- The lanes round two pops. -/
def hits2 (w : Fin 18 → Col) : Hits := k0_pay371 (w 0) (w 1) (w 2)

/-- The lanes round eleven pops. -/
def hits11 (w : Fin 9 → Col) : Hits := k0_pay483 (w 0) (w 1) (w 2) (w 3)

/-- The logarithm of the sum of exponentials over the sixteen hardest, from the slots after stage 7
   and the stages after it. -/
def lastStage (w7 : Fin 18 → Col) (w8 : Fin 15 → Col) (e2 : Hits) (w9 : Fin 12 → Col) (w10 : Fin 9 → Col)
    (w11 : Fin 6 → Col) (e11 : Hits) : Row1 :=
  k0_pay511 (k0_pay352 (w7 0))
     (k0_pay354 (w7 0))
     (k0_pay370 (w7 0) (w7 1) (w7 2))
     (k0_pay373 (k0_pay372 (w7 0) (w7 1) (w7 2)))
     (k0_pay387 (w8 0) (w8 1) e2)
     (k0_pay389 (w8 0) (w8 1) e2)
     (k0_pay402 (w8 0) (w8 1) (w8 2) e2)
     (k0_pay404 (w8 0) (w8 1) (w8 2) e2)
     (k0_pay417 (w9 0))
     (k0_pay419 (w9 0))
     (k0_pay430 (w9 0) (w9 1))
     (k0_pay432 (w9 0) (w9 1))
     (k0_pay442 (w9 0) (w9 1) (w9 2))
     (k0_pay444 (w9 0) (w9 1) (w9 2))
     (k0_pay454 (w10 0))
     (k0_pay456 (w10 0))
     (k0_pay464 (w10 0) (w10 1))
     (k0_pay466 (w10 0) (w10 1))
     (k0_pay473 (w10 0) (w10 1) (w10 2))
     (k0_pay475 (w10 0) (w10 1) (w10 2))
     (k0_pay482 (w10 0) (w10 1) (w10 2) (w10 3))
     (k0_pay485 (k0_pay484 (w10 0) (w10 1) (w10 2) (w10 3)))
     (k0_pay490 (w11 0) (w11 1) e11)
     (k0_pay492 (w11 0) (w11 1) e11)
     (k0_pay496 (w11 0) (w11 1) (w11 2) e11)
     (k0_pay498 (w11 0) (w11 1) (w11 2) e11)
     (k0_pay501 (w11 0) (w11 1) (w11 2) (w11 3) e11)
     (k0_pay503 (w11 0) (w11 1) (w11 2) (w11 3) e11)
     (k0_pay505 (w11 0) (w11 1) (w11 2) (w11 3) (w11 4) e11)
     (k0_pay507 (w11 0) (w11 1) (w11 2) (w11 3) (w11 4) e11)
     (k0_pay508 (w11 0) (w11 1) (w11 2) (w11 3) (w11 4) (w11 5) e11)
     (k0_pay509 (w11 0) (w11 1) (w11 2) (w11 3) (w11 4) (w11 5) e11)
     (k0_pay510 (w11 0) (w11 1) (w11 2) (w11 3) (w11 4) (w11 5) e11)

/-- The rounds after the network: from the eighteen slots still needed to the logarithm. -/
def tailStages (w7 : Fin 18 → Col) : Row1 :=
  lastStage w7 (stage8 w7) (hits2 w7) (stage9 (stage8 w7) (hits2 w7))
    (stage10 (stage9 (stage8 w7) (hits2 w7))) (stage11 (stage10 (stage9 (stage8 w7) (hits2 w7))))
    (hits11 (stage10 (stage9 (stage8 w7) (hits2 w7))))

/-- The block's logarithm of the sum of exponentials over the sixteen hardest of each row. -/
def blockLse (v6 : FVec Ideal S256x4096 .f32) (v13 : IVec S256x4096 1) (v21 : FVec Ideal S256x4096 .f32) : Row1 :=
  tailStages (stage7 (stage6 (stage5 (stage4 (stage3 (stage2 v6 v13 v21))))))

end Cert.Hard

end

end
-- ==== Proof.Bridge.lean ====
module

public import proofs.«01_k».proof.Proof.Stage

/-!
What each point of the grid leaves in the scratch and in the output: the two running totals, each the
old total plus the block's own part, and at the last point their quotient.
-/

@[expose] public section

set_option maxRecDepth 16384

noncomputable section

open Idealize.ShloMosaic Cert.KernelIdeal Cert.KernelIdeal.Gen

namespace Cert.Hard

/-- The offset of a whole block is zero on both axes. -/
theorem off_zero : (![0, 0] : Fin 2 → Nat) = fun _ => 0 := funext fun a => by fin_cases a <;> rfl

/-- The scratch's first cell, of the running sum of losses. -/
abbrev cell0 : S2.Idx := fun a => ⟨0, by revert a; decide⟩

/-- The scratch's second cell, of the running count of rows that take part. -/
abbrev cell1 : S2.Idx := fun a => ⟨1, by revert a; decide⟩

/-- The block's part in the sum of losses, added to the old sum. -/
def sumNew (i : grid0.Coords) (x0 : Vec Ideal S256x64 .f32) (x1 : Vec Ideal S64x4096 .f32) (x2 : Vec Ideal S256x1 .i32)
    (x3 : Vec Ideal S1x4096 .i32) (old : Ideal .f32) : Ideal .f32 :=
  k0_pay514 (k0_pay6 x2 x3) (blockLse (k0_pay2 x0 x1) (k0_pay3 x2 x3) (k0_pay4 i x0 x1))
    (k0_pay512 (k0_pay6 x2 x3) (k0_pay7 x0 x1 x2 x3 x0 x0)) (FloatOps.ofBits FTy.f32 0#32) old

/-- The block's part in the count, added to the old count. -/
def cntNew (x2 : Vec Ideal S256x1 .i32) (x3 : Vec Ideal S1x4096 .i32) (old : Ideal .f32) : Ideal .f32 :=
  k0_pay515 (k0_pay6 x2 x3) old

/-- The four input loads read the whole blocks. -/
theorem load0 (a1 : Memref sig .tc .vmem S256x64 .f32) (h1 : a1.IsWhole) (x0 : Vec Ideal S256x64 .f32) :
    View.readAt (Elt Ideal) a1.view (Rect.unit ![0, 0] S256x64.size inb_S256x64_S256x64_0_0).toLoadRect (h1.unread x0) = x0 := by
  simp only [View.readAt_eq_ld, h1.read_unread, View.ld_unit_zero (S := S256x64) off_zero]

/-- Loading the transposed embeddings' whole block gives the block. -/
theorem load1 (a1 : Memref sig .tc .vmem S64x4096 .f32) (h1 : a1.IsWhole) (x0 : Vec Ideal S64x4096 .f32) :
    View.readAt (Elt Ideal) a1.view (Rect.unit ![0, 0] S64x4096.size inb_S64x4096_S64x4096_0_0).toLoadRect (h1.unread x0) = x0 := by
  simp only [View.readAt_eq_ld, h1.read_unread, View.ld_unit_zero (S := S64x4096) off_zero]

/-- Loading the column of labels' whole block gives the block. -/
theorem load2 (a1 : Memref sig .tc .vmem S256x1 .i32) (h1 : a1.IsWhole) (x0 : Vec Ideal S256x1 .i32) :
    View.readAt (Elt Ideal) a1.view (Rect.unit ![0, 0] S256x1.size inb_S256x1_S256x1_0_0).toLoadRect (h1.unread x0) = x0 := by
  simp only [View.readAt_eq_ld, h1.read_unread, View.ld_unit_zero (S := S256x1) off_zero]

/-- Loading the row of labels' whole block gives the block. -/
theorem load3 (a1 : Memref sig .tc .vmem S1x4096 .i32) (h1 : a1.IsWhole) (x0 : Vec Ideal S1x4096 .i32) :
    View.readAt (Elt Ideal) a1.view (Rect.unit ![0, 0] S1x4096.size inb_S1x4096_S1x4096_0_0).toLoadRect (h1.unread x0) = x0 := by
  simp only [View.readAt_eq_ld, h1.read_unread, View.ld_unit_zero (S := S1x4096) off_zero]

/-- A one-cell load of the scratch reads that cell. -/
theorem loadS0 (a6 : Memref sig .tc .smem S2 .f32) (h6 : a6.IsWhole) (xs : Vec Ideal S2 .f32) (j : (Rect.unit (s := S2) ![0] ![1] inb_S2_S1_0).shape.Idx) :
    View.readAt (Elt Ideal) a6.view (Rect.unit ![0] ![1] inb_S2_S1_0).toLoadRect (h6.unread xs) j = xs cell0 := by
  rw [View.readAt_eq_ld, h6.read_unread]
  exact congrArg xs (funext fun a => by fin_cases a; have h : (j 0).val < 1 := (j 0).isLt; apply Fin.ext; show 0 + 1 * (j 0).val = 0; omega)

/-- A one-cell load of the scratch at its second cell reads that cell. -/
theorem loadS1 (a6 : Memref sig .tc .smem S2 .f32) (h6 : a6.IsWhole) (xs : Vec Ideal S2 .f32) (j : (Rect.unit (s := S2) ![1] ![1] inb_S2_S1_1).shape.Idx) :
    View.readAt (Elt Ideal) a6.view (Rect.unit ![1] ![1] inb_S2_S1_1).toLoadRect (h6.unread xs) j = xs cell1 := by
  rw [View.readAt_eq_ld, h6.read_unread]
  exact congrArg xs (funext fun a => by fin_cases a; have h : (j 0).val < 1 := (j 0).isLt; apply Fin.ext; show 1 + 1 * (j 0).val = 1; omega)

/-- A list of stores whose last one is the second cell's and the one before the first cell's: what the cells hold. -/
theorem canon_cells (p q : Ideal .f32) (L : List (View.Piece (Elt Ideal) S2 .f32)) :
    (View.canon (⟨Rect.unit ![1] ![1] inb_S2_S1_1, fun _ => p⟩ :: ⟨Rect.unit ![0] ![1] inb_S2_S1_0, fun _ => q⟩ :: L)) cell0 = q
    ∧ (View.canon (⟨Rect.unit ![1] ![1] inb_S2_S1_1, fun _ => p⟩ :: ⟨Rect.unit ![0] ![1] inb_S2_S1_0, fun _ => q⟩ :: L)) cell1 = p := by
  have e0 : cell0 = (Rect.unit (s := S2) ![0] ![1] inb_S2_S1_0).emb (Shape.Idx.first (s := S1) (by decide)) :=
    funext fun a => by fin_cases a; rfl
  have e1 : cell1 = (Rect.unit (s := S2) ![1] ![1] inb_S2_S1_1).emb (Shape.Idx.first (s := S1) (by decide)) :=
    funext fun a => by fin_cases a; rfl
  constructor
  · rw [View.canon_cons_of_not_mem, e0, View.canon_cons_emb]
    intro h
    obtain ⟨x, hx⟩ := (Rect.unit (s := S2) ![1] ![1] inb_S2_S1_1).exists_idx_of_mem h
    have h2 := congrArg Fin.val (congrFun hx 0)
    have h3 : 1 + 1 * (x 0).val = 0 := h2
    omega
  · rw [e1, View.canon_cons_emb]

/-- The first point starts both totals at zero. -/
theorem sout_A (c : Dev nD) (i : grid0.Coords) (a1 : Memref sig .tc .vmem S256x64 .f32) (h1 : a1.IsWhole)
    (a2 : Memref sig .tc .vmem S64x4096 .f32) (h2 : a2.IsWhole) (a3 : Memref sig .tc .vmem S256x1 .i32) (h3 : a3.IsWhole)
    (a4 : Memref sig .tc .vmem S1x4096 .i32) (h4 : a4.IsWhole) (a5 : Memref sig .tc .smem S1 .f32) (h5 : a5.IsWhole)
    (a6 : Memref sig .tc .smem S2 .f32) (h6 : a6.IsWhole) (hc0 : cond0_0 i) (hc1 : ¬cond0_1 i) (x0 : Vec Ideal S256x64 .f32) (x1 : Vec Ideal S64x4096 .f32)
    (x2 : Vec Ideal S256x1 .i32) (x3 : Vec Ideal S1x4096 .i32) :
    sout0_A_0 c i a1 h1 a2 h2 a3 h3 a4 h4 a5 h5 a6 h6 hc0 hc1 x0 x1 x2 x3 cell0 = sumNew i x0 x1 x2 x3 (FloatOps.ofBits FTy.f32 0#32)
    ∧ sout0_A_0 c i a1 h1 a2 h2 a3 h3 a4 h4 a5 h5 a6 h6 hc0 hc1 x0 x1 x2 x3 cell1 = cntNew x2 x3 (FloatOps.ofBits FTy.f32 0#32) := by
  have e : sout0_A_0 c i a1 h1 a2 h2 a3 h3 a4 h4 a5 h5 a6 h6 hc0 hc1 x0 x1 x2 x3
      = View.canon (⟨Rect.unit ![1] ![1] inb_S2_S1_1, fun _ => cntNew (View.readAt (Elt Ideal) a3.view (Rect.unit ![0, 0] S256x1.size inb_S256x1_S256x1_0_0).toLoadRect (h3.unread x2)) (View.readAt (Elt Ideal) a4.view (Rect.unit ![0, 0] S1x4096.size inb_S1x4096_S1x4096_0_0).toLoadRect (h4.unread x3)) (FloatOps.ofBits FTy.f32 0#32)⟩ ::
        ⟨Rect.unit ![0] ![1] inb_S2_S1_0, fun _ => sumNew i (View.readAt (Elt Ideal) a1.view (Rect.unit ![0, 0] S256x64.size inb_S256x64_S256x64_0_0).toLoadRect (h1.unread x0)) (View.readAt (Elt Ideal) a2.view (Rect.unit ![0, 0] S64x4096.size inb_S64x4096_S64x4096_0_0).toLoadRect (h2.unread x1)) (View.readAt (Elt Ideal) a3.view (Rect.unit ![0, 0] S256x1.size inb_S256x1_S256x1_0_0).toLoadRect (h3.unread x2)) (View.readAt (Elt Ideal) a4.view (Rect.unit ![0, 0] S1x4096.size inb_S1x4096_S1x4096_0_0).toLoadRect (h4.unread x3)) (FloatOps.ofBits FTy.f32 0#32)⟩ :: [⟨Rect.unit ![1] ![1] inb_S2_S1_1, fun _ => (FloatOps.ofBits FTy.f32 0#32 : Ideal .f32)⟩,
        ⟨Rect.unit ![0] ![1] inb_S2_S1_0, fun _ => (FloatOps.ofBits FTy.f32 0#32 : Ideal .f32)⟩]) := by
    unfold sout0_A_0
    refine (View.read_writes_eq_canon _ _ _ (scover0_A_0 c i a1 h1 a2 h2 a3 h3 a4 h4 a5 h5 a6 h6 hc0 hc1 x0 x1 x2 x3)).trans ?_
    sl_kernel_rfl
  rw [load0 a1 h1 x0, load1 a2 h2 x1, load2 a3 h3 x2, load3 a4 h4 x3] at e
  have h := canon_cells (cntNew x2 x3 (FloatOps.ofBits FTy.f32 0#32)) (sumNew i x0 x1 x2 x3 (FloatOps.ofBits FTy.f32 0#32)) [⟨Rect.unit ![1] ![1] inb_S2_S1_1, fun _ => (FloatOps.ofBits FTy.f32 0#32 : Ideal .f32)⟩,
        ⟨Rect.unit ![0] ![1] inb_S2_S1_0, fun _ => (FloatOps.ofBits FTy.f32 0#32 : Ideal .f32)⟩]

  exact ⟨(congrFun e cell0).trans h.1, (congrFun e cell1).trans h.2⟩

/-- A middle point adds to the totals it finds. -/
theorem sout_B (c : Dev nD) (i : grid0.Coords) (a1 : Memref sig .tc .vmem S256x64 .f32) (h1 : a1.IsWhole)
    (a2 : Memref sig .tc .vmem S64x4096 .f32) (h2 : a2.IsWhole) (a3 : Memref sig .tc .vmem S256x1 .i32) (h3 : a3.IsWhole)
    (a4 : Memref sig .tc .vmem S1x4096 .i32) (h4 : a4.IsWhole) (a5 : Memref sig .tc .smem S1 .f32) (h5 : a5.IsWhole)
    (a6 : Memref sig .tc .smem S2 .f32) (h6 : a6.IsWhole) (hc0 : ¬cond0_0 i) (hc1 : ¬cond0_1 i) (x0 : Vec Ideal S256x64 .f32) (x1 : Vec Ideal S64x4096 .f32)
    (x2 : Vec Ideal S256x1 .i32) (x3 : Vec Ideal S1x4096 .i32) (xs : Vec Ideal S2 .f32) :
    sout0_B_0 c i a1 h1 a2 h2 a3 h3 a4 h4 a5 h5 a6 h6 hc0 hc1 x0 x1 x2 x3 xs cell0 = sumNew i x0 x1 x2 x3 (xs cell0)
    ∧ sout0_B_0 c i a1 h1 a2 h2 a3 h3 a4 h4 a5 h5 a6 h6 hc0 hc1 x0 x1 x2 x3 xs cell1 = cntNew x2 x3 (xs cell1) := by
  have e : sout0_B_0 c i a1 h1 a2 h2 a3 h3 a4 h4 a5 h5 a6 h6 hc0 hc1 x0 x1 x2 x3 xs
      = View.canon (⟨Rect.unit ![1] ![1] inb_S2_S1_1, fun _ => cntNew (View.readAt (Elt Ideal) a3.view (Rect.unit ![0, 0] S256x1.size inb_S256x1_S256x1_0_0).toLoadRect (h3.unread x2)) (View.readAt (Elt Ideal) a4.view (Rect.unit ![0, 0] S1x4096.size inb_S1x4096_S1x4096_0_0).toLoadRect (h4.unread x3)) (View.readAt (Elt Ideal) a6.view (Rect.unit ![1] ![1] inb_S2_S1_1).toLoadRect (h6.unread xs) (Shape.Idx.first (by decide)))⟩ ::
        ⟨Rect.unit ![0] ![1] inb_S2_S1_0, fun _ => sumNew i (View.readAt (Elt Ideal) a1.view (Rect.unit ![0, 0] S256x64.size inb_S256x64_S256x64_0_0).toLoadRect (h1.unread x0)) (View.readAt (Elt Ideal) a2.view (Rect.unit ![0, 0] S64x4096.size inb_S64x4096_S64x4096_0_0).toLoadRect (h2.unread x1)) (View.readAt (Elt Ideal) a3.view (Rect.unit ![0, 0] S256x1.size inb_S256x1_S256x1_0_0).toLoadRect (h3.unread x2)) (View.readAt (Elt Ideal) a4.view (Rect.unit ![0, 0] S1x4096.size inb_S1x4096_S1x4096_0_0).toLoadRect (h4.unread x3)) (View.readAt (Elt Ideal) a6.view (Rect.unit ![0] ![1] inb_S2_S1_0).toLoadRect (h6.unread xs) (Shape.Idx.first (by decide)))⟩ :: []) := by
    unfold sout0_B_0
    refine (View.read_writes_eq_canon _ _ _ (scover0_B_0 c i a1 h1 a2 h2 a3 h3 a4 h4 a5 h5 a6 h6 hc0 hc1 x0 x1 x2 x3 xs)).trans ?_
    sl_kernel_rfl
  rw [load0 a1 h1 x0, load1 a2 h2 x1, load2 a3 h3 x2, load3 a4 h4 x3, loadS0 a6 h6 xs, loadS1 a6 h6 xs] at e
  have h := canon_cells (cntNew x2 x3 (xs cell1)) (sumNew i x0 x1 x2 x3 (xs cell0)) []

  exact ⟨(congrFun e cell0).trans h.1, (congrFun e cell1).trans h.2⟩

/-- So does the last point. -/
theorem sout_C (c : Dev nD) (i : grid0.Coords) (a1 : Memref sig .tc .vmem S256x64 .f32) (h1 : a1.IsWhole)
    (a2 : Memref sig .tc .vmem S64x4096 .f32) (h2 : a2.IsWhole) (a3 : Memref sig .tc .vmem S256x1 .i32) (h3 : a3.IsWhole)
    (a4 : Memref sig .tc .vmem S1x4096 .i32) (h4 : a4.IsWhole) (a5 : Memref sig .tc .smem S1 .f32) (h5 : a5.IsWhole)
    (a6 : Memref sig .tc .smem S2 .f32) (h6 : a6.IsWhole) (hc0 : ¬cond0_0 i) (hc1 : cond0_1 i) (x0 : Vec Ideal S256x64 .f32) (x1 : Vec Ideal S64x4096 .f32)
    (x2 : Vec Ideal S256x1 .i32) (x3 : Vec Ideal S1x4096 .i32) (xs : Vec Ideal S2 .f32) :
    sout0_C_0 c i a1 h1 a2 h2 a3 h3 a4 h4 a5 h5 a6 h6 hc0 hc1 x0 x1 x2 x3 xs cell0 = sumNew i x0 x1 x2 x3 (xs cell0)
    ∧ sout0_C_0 c i a1 h1 a2 h2 a3 h3 a4 h4 a5 h5 a6 h6 hc0 hc1 x0 x1 x2 x3 xs cell1 = cntNew x2 x3 (xs cell1) := by
  have e : sout0_C_0 c i a1 h1 a2 h2 a3 h3 a4 h4 a5 h5 a6 h6 hc0 hc1 x0 x1 x2 x3 xs
      = View.canon (⟨Rect.unit ![1] ![1] inb_S2_S1_1, fun _ => cntNew (View.readAt (Elt Ideal) a3.view (Rect.unit ![0, 0] S256x1.size inb_S256x1_S256x1_0_0).toLoadRect (h3.unread x2)) (View.readAt (Elt Ideal) a4.view (Rect.unit ![0, 0] S1x4096.size inb_S1x4096_S1x4096_0_0).toLoadRect (h4.unread x3)) (View.readAt (Elt Ideal) a6.view (Rect.unit ![1] ![1] inb_S2_S1_1).toLoadRect (h6.unread xs) (Shape.Idx.first (by decide)))⟩ ::
        ⟨Rect.unit ![0] ![1] inb_S2_S1_0, fun _ => sumNew i (View.readAt (Elt Ideal) a1.view (Rect.unit ![0, 0] S256x64.size inb_S256x64_S256x64_0_0).toLoadRect (h1.unread x0)) (View.readAt (Elt Ideal) a2.view (Rect.unit ![0, 0] S64x4096.size inb_S64x4096_S64x4096_0_0).toLoadRect (h2.unread x1)) (View.readAt (Elt Ideal) a3.view (Rect.unit ![0, 0] S256x1.size inb_S256x1_S256x1_0_0).toLoadRect (h3.unread x2)) (View.readAt (Elt Ideal) a4.view (Rect.unit ![0, 0] S1x4096.size inb_S1x4096_S1x4096_0_0).toLoadRect (h4.unread x3)) (View.readAt (Elt Ideal) a6.view (Rect.unit ![0] ![1] inb_S2_S1_0).toLoadRect (h6.unread xs) (Shape.Idx.first (by decide)))⟩ :: []) := by
    unfold sout0_C_0
    refine (View.read_writes_eq_canon _ _ _ (scover0_C_0 c i a1 h1 a2 h2 a3 h3 a4 h4 a5 h5 a6 h6 hc0 hc1 x0 x1 x2 x3 xs)).trans ?_
    sl_kernel_rfl
  rw [load0 a1 h1 x0, load1 a2 h2 x1, load2 a3 h3 x2, load3 a4 h4 x3, loadS0 a6 h6 xs, loadS1 a6 h6 xs] at e
  have h := canon_cells (cntNew x2 x3 (xs cell1)) (sumNew i x0 x1 x2 x3 (xs cell0)) []

  exact ⟨(congrFun e cell0).trans h.1, (congrFun e cell1).trans h.2⟩

/-- The last point stores the sum over the count, the count at least one. -/
theorem out_C (c : Dev nD) (i : grid0.Coords) (a1 : Memref sig .tc .vmem S256x64 .f32) (h1 : a1.IsWhole)
    (a2 : Memref sig .tc .vmem S64x4096 .f32) (h2 : a2.IsWhole) (a3 : Memref sig .tc .vmem S256x1 .i32) (h3 : a3.IsWhole)
    (a4 : Memref sig .tc .vmem S1x4096 .i32) (h4 : a4.IsWhole) (a5 : Memref sig .tc .smem S1 .f32) (h5 : a5.IsWhole)
    (a6 : Memref sig .tc .smem S2 .f32) (h6 : a6.IsWhole) (hc0 : ¬cond0_0 i) (hc1 : cond0_1 i) (x0 : Vec Ideal S256x64 .f32) (x1 : Vec Ideal S64x4096 .f32)
    (x2 : Vec Ideal S256x1 .i32) (x3 : Vec Ideal S1x4096 .i32) (xs : Vec Ideal S2 .f32) :
    out0_C_4 c i a1 h1 a2 h2 a3 h3 a4 h4 a5 h5 a6 h6 hc0 hc1 x0 x1 x2 x3 xs = (fun _ => k0_pay1 (F := Ideal) (sumNew i x0 x1 x2 x3 (xs cell0)) (cntNew x2 x3 (xs cell1)) : Vec Ideal S1 .f32) := by
  have e : out0_C_4 c i a1 h1 a2 h2 a3 h3 a4 h4 a5 h5 a6 h6 hc0 hc1 x0 x1 x2 x3 xs
      = View.canon [⟨Rect.unit ![0] ![1] inb_S1_S1_0, fun _ => k0_pay1 (F := Ideal) (sumNew i (View.readAt (Elt Ideal) a1.view (Rect.unit ![0, 0] S256x64.size inb_S256x64_S256x64_0_0).toLoadRect (h1.unread x0)) (View.readAt (Elt Ideal) a2.view (Rect.unit ![0, 0] S64x4096.size inb_S64x4096_S64x4096_0_0).toLoadRect (h2.unread x1)) (View.readAt (Elt Ideal) a3.view (Rect.unit ![0, 0] S256x1.size inb_S256x1_S256x1_0_0).toLoadRect (h3.unread x2)) (View.readAt (Elt Ideal) a4.view (Rect.unit ![0, 0] S1x4096.size inb_S1x4096_S1x4096_0_0).toLoadRect (h4.unread x3)) (View.readAt (Elt Ideal) a6.view (Rect.unit ![0] ![1] inb_S2_S1_0).toLoadRect (h6.unread xs) (Shape.Idx.first (by decide)))) (cntNew (View.readAt (Elt Ideal) a3.view (Rect.unit ![0, 0] S256x1.size inb_S256x1_S256x1_0_0).toLoadRect (h3.unread x2)) (View.readAt (Elt Ideal) a4.view (Rect.unit ![0, 0] S1x4096.size inb_S1x4096_S1x4096_0_0).toLoadRect (h4.unread x3)) (View.readAt (Elt Ideal) a6.view (Rect.unit ![1] ![1] inb_S2_S1_1).toLoadRect (h6.unread xs) (Shape.Idx.first (by decide))))⟩] := by
    unfold out0_C_4
    refine (View.read_writes_eq_canon _ _ _ (cover0_C_4 c i a1 h1 a2 h2 a3 h3 a4 h4 a5 h5 a6 h6 hc0 hc1 x0 x1 x2 x3 xs)).trans ?_
    sl_kernel_rfl
  rw [load0 a1 h1 x0, load1 a2 h2 x1, load2 a3 h3 x2, load3 a4 h4 x3, loadS0 a6 h6 xs, loadS1 a6 h6 xs] at e
  rw [e]
  exact View.canon_unit_zero (S := S1) (funext fun a => by fin_cases a; rfl) _ _

end Cert.Hard

end

end
-- ==== Proof.Network.lean ====
module

public import Idealize.ShloMosaic.PureOps.Ideal.Laws
public import Mathlib.Data.EReal.Basic
public import Mathlib.Algebra.BigOperators.Fin

/-!
The comparator network that leaves the sixteen largest of thirty-two values in slots 0 to 15, in
descending order.

It is enough to follow the marks "is at least θ" through the network: a comparator's larger output is
at least θ when either input is, its smaller one when both are.  On marks the network sorts runs of
eight, merges them to runs of sixteen and merges the two runs; every such step has finitely many
inputs, which are run through the network all at once as the bits of a number.
-/

@[expose] public section

namespace Cert.Hard

/-- One comparator: the larger of the two slots' values goes to the first, the smaller to the second. -/
def cmpx {α : Type} (mx mn : α → α → α) (p : Fin 32 × Fin 32) (f : Fin 32 → α) : Fin 32 → α :=
  fun k => if k = p.1 then mx (f p.1) (f p.2) else if k = p.2 then mn (f p.1) (f p.2) else f k

/-- A list of comparators, the first applied first. -/
def net {α : Type} (mx mn : α → α → α) (ps : List (Fin 32 × Fin 32)) (f : Fin 32 → α) : Fin 32 → α :=
  ps.foldl (fun f p => cmpx mx mn p f) f

/-- One list of comparators after another. -/
theorem net_append {α : Type} (mx mn : α → α → α) (ps qs : List (Fin 32 × Fin 32)) (f : Fin 32 → α) :
    net mx mn (ps ++ qs) f = net mx mn qs (net mx mn ps f) := by
  unfold net; rw [List.foldl_append]

/-- A map that carries larger to larger and smaller to smaller commutes with the network. -/
theorem net_map {α β : Type} (mx mn : α → α → α) (mx' mn' : β → β → β) (φ : α → β)
    (hx : ∀ a b, φ (mx a b) = mx' (φ a) (φ b)) (hn : ∀ a b, φ (mn a b) = mn' (φ a) (φ b)) :
    ∀ (ps : List (Fin 32 × Fin 32)) (f : Fin 32 → α) (k : Fin 32),
      φ (net mx mn ps f k) = net mx' mn' ps (fun j => φ (f j)) k
  | [], _, _ => rfl
  | p :: ps, f, k => by
    have h := net_map mx mn mx' mn' φ hx hn ps (cmpx mx mn p f) k
    have e : (fun j => φ (cmpx mx mn p f j)) = cmpx mx' mn' p (fun j => φ (f j)) := by
      funext j
      unfold cmpx
      split_ifs <;> simp [hx, hn]
    rw [e] at h
    exact h

/-- Comparators that stay inside blocks read only the slot's own block. -/
theorem net_local {α : Type} (mx mn : α → α → α) (β : Fin 32 → ℕ) :
    ∀ (ps : List (Fin 32 × Fin 32)) (_ : ∀ p ∈ ps, β p.1 = β p.2) (f g : Fin 32 → α) (b : ℕ)
      (_ : ∀ j, β j = b → f j = g j) (k : Fin 32), β k = b → net mx mn ps f k = net mx mn ps g k
  | [], _, _, _, _, h, k, hk => h k hk
  | p :: ps, hp, f, g, b, h, k, hk => by
    refine net_local mx mn β ps (fun q hq => hp q (List.mem_cons_of_mem _ hq)) (cmpx mx mn p f) (cmpx mx mn p g) b ?_ k hk
    intro j hj
    have hpp := hp p (List.mem_cons_self ..)
    unfold cmpx
    split_ifs with h1 h2
    · subst h1; rw [h _ hj, h _ (hpp ▸ hj)]
    · subst h2; rw [h _ hj, h _ (hpp.trans hj)]
    · exact h j hj

/-- The number whose bit `s` is `p s`, for `s < n`. -/
def mask : ℕ → (ℕ → Bool) → ℕ
  | 0, _ => 0
  | n + 1, p => 2 * mask n (fun s => p (s + 1)) + (p 0).toNat

/-- The mask's bits are the predicate's values. -/
theorem testBit_mask : ∀ (n : ℕ) (p : ℕ → Bool) (s : ℕ), s < n → (mask n p).testBit s = p s
  | n + 1, p, 0, _ => by
    cases h : p 0 <;> simp [mask, h, Nat.testBit_zero]
  | n + 1, p, s + 1, hs => by
    have h := testBit_mask n (fun s => p (s + 1)) s (by omega)
    rw [Nat.testBit_succ]
    have e : mask (n + 1) p / 2 = mask n (fun s => p (s + 1)) := by
      have e' : mask (n + 1) p = 2 * mask n (fun s => p (s + 1)) + (p 0).toNat := rfl
      have := Bool.toNat_le (p 0)
      omega
    rw [e, h]

/-- A network on marks, from its run on all the inputs at once. -/
theorem net_of_masks (ps : List (Fin 32 × Fin 32)) (β : Fin 32 → ℕ) (n : ℕ) (inp : Fin 32 → ℕ → Bool)
    (out : ℕ → Bool) (k : Fin 32) (hβ : ∀ p ∈ ps, β p.1 = β p.2)
    (h : net (· ||| ·) (· &&& ·) ps (fun j => mask n (inp j)) k = mask n out)
    (f : Fin 32 → Bool) (s : ℕ) (hs : s < n) (hf : ∀ j, β j = β k → f j = inp j s) :
    net (· || ·) (· && ·) ps f k = out s := by
  rw [net_local _ _ β ps hβ f (fun j => (mask n (inp j)).testBit s) (β k)
    (fun j hj => by rw [hf j hj, testBit_mask _ _ _ hs]) k rfl]
  rw [← net_map (· ||| ·) (· &&& ·) (· || ·) (· && ·) (fun x : ℕ => x.testBit s)
    (fun a b => Nat.testBit_or a b s) (fun a b => Nat.testBit_and a b s), h, testBit_mask _ _ _ hs]

/-- The comparators that sort each run of eight slots. -/
def sortEights : List (Fin 32 × Fin 32) :=
    [(0, 1), (2, 3), (4, 5), (6, 7), (8, 9), (10, 11), (12, 13), (14, 15), (16, 17), (18, 19), (20, 21),
    (22, 23), (24, 25), (26, 27), (28, 29), (30, 31), (0, 2), (1, 3), (4, 6), (5, 7), (8, 10), (9, 11), (12, 14),
    (13, 15), (16, 18), (17, 19), (20, 22), (21, 23), (24, 26), (25, 27), (28, 30), (29, 31), (1, 2), (5, 6),
    (9, 10), (13, 14), (17, 18), (21, 22), (25, 26), (29, 30), (0, 4), (1, 5), (2, 6), (3, 7), (8, 12), (9, 13),
    (10, 14), (11, 15), (16, 20), (17, 21), (18, 22), (19, 23), (24, 28), (25, 29), (26, 30), (27, 31), (2, 4),
    (3, 5), (10, 12), (11, 13), (18, 20), (19, 21), (26, 28), (27, 29), (1, 2), (3, 4), (5, 6), (9, 10),
    (11, 12), (13, 14), (17, 18), (19, 20), (21, 22), (25, 26), (27, 28), (29, 30)]

/-- The comparators that merge two runs of eight into one of sixteen. -/
def mergeEights : List (Fin 32 × Fin 32) :=
    [(0, 8), (1, 9), (2, 10), (3, 11), (4, 12), (5, 13), (6, 14), (7, 15), (16, 24), (17, 25), (18, 26),
    (19, 27), (20, 28), (21, 29), (22, 30), (23, 31), (4, 8), (5, 9), (6, 10), (7, 11), (20, 24), (21, 25),
    (22, 26), (23, 27), (2, 4), (3, 5), (6, 8), (7, 9), (10, 12), (11, 13), (18, 20), (19, 21), (22, 24),
    (23, 25), (26, 28), (27, 29), (1, 2), (3, 4), (5, 6), (7, 8), (9, 10), (11, 12), (13, 14), (17, 18),
    (19, 20), (21, 22), (23, 24), (25, 26), (27, 28), (29, 30)]

/-- The comparators that merge the two runs of sixteen, as far as the first sixteen slots need. -/
def mergeHalves : List (Fin 32 × Fin 32) :=
    [(0, 16), (1, 17), (2, 18), (3, 19), (4, 20), (5, 21), (6, 22), (7, 23), (8, 24), (9, 25), (10, 26),
    (11, 27), (12, 28), (13, 29), (14, 30), (15, 31), (8, 16), (9, 17), (10, 18), (11, 19), (12, 20), (13, 21),
    (14, 22), (15, 23), (4, 8), (5, 9), (6, 10), (7, 11), (12, 16), (13, 17), (14, 18), (15, 19), (2, 4), (3, 5),
    (6, 8), (7, 9), (10, 12), (11, 13), (14, 16), (15, 17), (1, 2), (3, 4), (5, 6), (7, 8), (9, 10), (11, 12),
    (13, 14), (15, 16)]

/-- How many of the eight marks of run `b` are set. -/
def count8 (f : Fin 32 → Bool) (b : Fin 4) : ℕ := ∑ i : Fin 8, (f ⟨8 * b.val + i.val, by omega⟩).toNat

/-- A count over eight places is at most eight. -/
theorem count8_le (f : Fin 32 → Bool) (b : Fin 4) : count8 f b ≤ 8 := by
  unfold count8
  calc _ ≤ ∑ _i : Fin 8, 1 := Finset.sum_le_sum fun i _ => Bool.toNat_le _
    _ = 8 := by simp

/-- A mask of so many bits is below that power of two. -/
theorem mask_lt : ∀ (n : ℕ) (p : ℕ → Bool), mask n p < 2 ^ n
  | 0, _ => by simp [mask]
  | n + 1, p => by
    have h := mask_lt n (fun s => p (s + 1))
    have h1 := Bool.toNat_le (p 0)
    simp only [mask, pow_succ]
    omega

/-- How many of the low eight bits of a number are set. -/
def pop8 (s : ℕ) : ℕ := ∑ i : Fin 8, (s.testBit i.val).toNat

/-- The first comparators stay inside blocks of eight. -/
theorem sortEights_blocks : ∀ p ∈ sortEights, p.1.val / 8 = p.2.val / 8 := by decide +kernel

/-- The next comparators stay inside blocks of sixteen. -/
theorem mergeEights_blocks : ∀ p ∈ mergeEights, p.1.val / 16 = p.2.val / 16 := by decide +kernel

/-- The first comparators sort each block of eight, for every pattern of zeros and ones. -/
theorem sortEights_all : ∀ k : Fin 32,
    net (· ||| ·) (· &&& ·) sortEights (fun j => mask 256 fun s => s.testBit (j.val % 8)) k
      = mask 256 fun s => decide (k.val % 8 < (s.testBit 0).toNat + (s.testBit 1).toNat + (s.testBit 2).toNat
        + (s.testBit 3).toNat + (s.testBit 4).toNat + (s.testBit 5).toNat + (s.testBit 6).toNat
        + (s.testBit 7).toNat) := by
  decide +kernel

/-- The next comparators merge sorted blocks of eight, for every pair of counts. -/
theorem mergeEights_all : ∀ k : Fin 32,
    net (· ||| ·) (· &&& ·) mergeEights
        (fun j => mask 81 fun s => decide (j.val % 8 < if j.val / 8 % 2 = 0 then s / 9 else s % 9)) k
      = mask 81 fun s => decide (k.val % 16 < s / 9 + s % 9) := by
  decide +kernel

/-- The last comparators put the sixteen largest in order at the front, for every pair of counts. -/
theorem mergeHalves_all : ∀ k : Fin 32, k.val < 16 →
    net (· ||| ·) (· &&& ·) mergeHalves
        (fun j => mask 289 fun s => decide (j.val % 16 < if j.val / 16 = 0 then s / 17 else s % 17)) k
      = mask 289 fun s => decide (k.val < s / 17 + s % 17) := by
  decide +kernel

/-- The first comparators sort every run of eight. -/
theorem sortEights_spec (f : Fin 32 → Bool) (k : Fin 32) :
    net (· || ·) (· && ·) sortEights f k = decide (k.val % 8 < count8 f ⟨k.val / 8, by omega⟩) := by
  obtain ⟨s, hs, hb⟩ : ∃ s < 256, ∀ i (h : i < 8), s.testBit i = f ⟨8 * (k.val / 8) + i, by omega⟩ :=
    ⟨mask 8 fun i => if h : i < 8 then f ⟨8 * (k.val / 8) + i, by omega⟩ else false,
      mask_lt 8 _, fun i h => by rw [testBit_mask _ _ _ h, dif_pos h]⟩
  rw [net_of_masks sortEights (fun j => j.val / 8) 256 _ _ k sortEights_blocks (sortEights_all k) f s hs
    (fun j hj => by
      rw [hb _ (by omega)]
      congr 1
      apply Fin.ext
      simp only at hj ⊢
      omega)]
  simp only [hb 0 (by omega), hb 1 (by omega), hb 2 (by omega), hb 3 (by omega), hb 4 (by omega),
    hb 5 (by omega), hb 6 (by omega), hb 7 (by omega), count8, Fin.sum_univ_eight]
  rfl

/-- The next comparators merge the sorted eights into sorted sixteens. -/
theorem mergeEights_spec (f : Fin 32 → Bool) (c : Fin 4 → ℕ) (hc : ∀ b, c b ≤ 8)
    (hf : ∀ j : Fin 32, f j = decide (j.val % 8 < c ⟨j.val / 8, by omega⟩)) (k : Fin 32) :
    net (· || ·) (· && ·) mergeEights f k
      = decide (k.val % 16 < c ⟨2 * (k.val / 16), by omega⟩ + c ⟨2 * (k.val / 16) + 1, by omega⟩) := by
  have h1 := hc ⟨2 * (k.val / 16), by omega⟩
  have h2 := hc ⟨2 * (k.val / 16) + 1, by omega⟩
  rw [net_of_masks mergeEights (fun j => j.val / 16) 81 _ _ k mergeEights_blocks (mergeEights_all k) f
    (c ⟨2 * (k.val / 16), by omega⟩ * 9 + c ⟨2 * (k.val / 16) + 1, by omega⟩) (by omega)
    (fun j hj => by
      replace hj : j.val / 16 = k.val / 16 := hj
      rw [hf j]
      congr 2
      split_ifs with h
      · rw [show (⟨j.val / 8, by omega⟩ : Fin 4) = ⟨2 * (k.val / 16), by omega⟩ from Fin.ext (by simp only; omega)]
        omega
      · rw [show (⟨j.val / 8, by omega⟩ : Fin 4) = ⟨2 * (k.val / 16) + 1, by omega⟩ from
          Fin.ext (by simp only; omega)]
        omega)]
  congr 2
  omega

/-- The last comparators merge the two sorted sixteens as far as the first sixteen slots. -/
theorem mergeHalves_spec (f : Fin 32 → Bool) (c : Fin 2 → ℕ) (hc : ∀ b, c b ≤ 16)
    (hf : ∀ j : Fin 32, f j = decide (j.val % 16 < c ⟨j.val / 16, by omega⟩)) (k : Fin 32) (hk : k.val < 16) :
    net (· || ·) (· && ·) mergeHalves f k = decide (k.val < c 0 + c 1) := by
  have h1 := hc 0
  have h2 := hc 1
  rw [net_of_masks mergeHalves (fun _ => 0) 289 _ _ k (fun _ _ => rfl) (mergeHalves_all k hk) f
    (c 0 * 17 + c 1) (by omega)
    (fun j _ => by
      rw [hf j]
      congr 2
      split_ifs with h
      · rw [show (⟨j.val / 16, by omega⟩ : Fin 2) = 0 from Fin.ext (by simpa using h)]
        omega
      · rw [show (⟨j.val / 16, by omega⟩ : Fin 2) = 1 from Fin.ext (by simp only [Fin.val_one]; omega)]
        omega)]
  congr 2
  omega

/-- The marks of all four runs together. -/
theorem sum_count8 (f : Fin 32 → Bool) : ∑ b : Fin 4, count8 f b = ∑ j, (f j).toNat := by
  obtain ⟨g, hg⟩ : ∃ g : ℕ → ℕ, ∀ j : Fin 32, (f j).toNat = g j.val :=
    ⟨fun n => if h : n < 32 then (f ⟨n, h⟩).toNat else 0, fun j => by
      show _ = dite _ _ _
      rw [dif_pos j.isLt]⟩
  have hc : ∀ b : Fin 4, count8 f b = ∑ i ∈ Finset.range 8, g (8 * b.val + i) := fun b => by
    rw [Finset.sum_range, count8]
    exact Finset.sum_congr rfl fun i _ => hg _
  rw [Finset.sum_congr rfl (fun j _ => hg j), ← Finset.sum_range g, Fin.sum_univ_four, hc, hc, hc, hc,
    show (32 : ℕ) = 8 + 8 + 8 + 8 from rfl, Finset.sum_range_add, Finset.sum_range_add, Finset.sum_range_add]
  simp only [Fin.val_zero, Nat.mul_zero, Nat.zero_add]
  rfl

/-- The whole network. -/
def pairs : List (Fin 32 × Fin 32) := sortEights ++ mergeEights ++ mergeHalves

/-- Comparators 0 to 2. -/
def seg2 : List (Fin 32 × Fin 32) :=
    [(0, 1), (2, 3), (4, 5)]

/-- Comparators 3 to 32. -/
def seg3 : List (Fin 32 × Fin 32) :=
    [(6, 7), (8, 9), (10, 11), (12, 13), (14, 15), (16, 17), (18, 19), (20, 21), (22, 23), (24, 25), (26, 27),
    (28, 29), (30, 31), (0, 2), (1, 3), (4, 6), (5, 7), (8, 10), (9, 11), (12, 14), (13, 15), (16, 18), (17, 19),
    (20, 22), (21, 23), (24, 26), (25, 27), (28, 30), (29, 31), (1, 2)]

/-- Comparators 33 to 62. -/
def seg4 : List (Fin 32 × Fin 32) :=
    [(5, 6), (9, 10), (13, 14), (17, 18), (21, 22), (25, 26), (29, 30), (0, 4), (1, 5), (2, 6), (3, 7), (8, 12),
    (9, 13), (10, 14), (11, 15), (16, 20), (17, 21), (18, 22), (19, 23), (24, 28), (25, 29), (26, 30), (27, 31),
    (2, 4), (3, 5), (10, 12), (11, 13), (18, 20), (19, 21), (26, 28)]

/-- Comparators 63 to 92. -/
def seg5 : List (Fin 32 × Fin 32) :=
    [(27, 29), (1, 2), (3, 4), (5, 6), (9, 10), (11, 12), (13, 14), (17, 18), (19, 20), (21, 22), (25, 26),
    (27, 28), (29, 30), (0, 8), (1, 9), (2, 10), (3, 11), (4, 12), (5, 13), (6, 14), (7, 15), (16, 24), (17, 25),
    (18, 26), (19, 27), (20, 28), (21, 29), (22, 30), (23, 31), (4, 8)]

/-- Comparators 93 to 122. -/
def seg6 : List (Fin 32 × Fin 32) :=
    [(5, 9), (6, 10), (7, 11), (20, 24), (21, 25), (22, 26), (23, 27), (2, 4), (3, 5), (6, 8), (7, 9), (10, 12),
    (11, 13), (18, 20), (19, 21), (22, 24), (23, 25), (26, 28), (27, 29), (1, 2), (3, 4), (5, 6), (7, 8),
    (9, 10), (11, 12), (13, 14), (17, 18), (19, 20), (21, 22), (23, 24)]

/-- Comparators 123 to 159. -/
def seg7 : List (Fin 32 × Fin 32) :=
    [(25, 26), (27, 28), (29, 30), (0, 16), (1, 17), (2, 18), (3, 19), (4, 20), (5, 21), (6, 22), (7, 23),
    (8, 24), (9, 25), (10, 26), (11, 27), (12, 28), (13, 29), (14, 30), (15, 31), (8, 16), (9, 17), (10, 18),
    (11, 19), (12, 20), (13, 21), (14, 22), (15, 23), (4, 8), (5, 9), (6, 10), (7, 11), (12, 16), (13, 17),
    (14, 18), (15, 19), (2, 4), (3, 5)]

/-- Comparators 160 to 173. -/
def seg8 : List (Fin 32 × Fin 32) :=
    [(6, 8), (7, 9), (10, 12), (11, 13), (14, 16), (15, 17), (1, 2), (3, 4), (5, 6), (7, 8), (9, 10), (11, 12),
    (13, 14), (15, 16)]

/-- The comparators in the parts the kernel's words come in. -/
theorem pairs_eq : pairs = seg2 ++ seg3 ++ seg4 ++ seg5 ++ seg6 ++ seg7 ++ seg8 := by decide +kernel

/-- On marks: slot `k` of the first sixteen is marked when more than `k` of the inputs are. -/
theorem pairs_marks (f : Fin 32 → Bool) (k : Fin 32) (hk : k.val < 16) :
    net (· || ·) (· && ·) pairs f k = decide (k.val < ∑ j, (f j).toNat) := by
  unfold pairs
  rw [net_append, net_append]
  rw [mergeHalves_spec _ (fun b => count8 f ⟨2 * b.val, by omega⟩ + count8 f ⟨2 * b.val + 1, by omega⟩)
    (fun b => by
      have := count8_le f ⟨2 * b.val, by omega⟩
      have := count8_le f ⟨2 * b.val + 1, by omega⟩
      omega)
    (fun j => mergeEights_spec _ (count8 f) (count8_le f) (fun j => sortEights_spec f j) j) k hk]
  rw [← sum_count8, Fin.sum_univ_four, decide_eq_decide]
  show _ < count8 f 0 + count8 f 1 + (count8 f 2 + count8 f 3) ↔ _
  rw [Nat.add_assoc (count8 f 0 + count8 f 1)]

/-- On values: slot `k` of the first sixteen is at least θ when more than `k` of the inputs are. -/
theorem pairs_values {α : Type} [LinearOrder α] (f : Fin 32 → α) (k : Fin 32) (hk : k.val < 16) (θ : α) :
    θ ≤ net max min pairs f k ↔ k.val < (Finset.univ.filter fun j => θ ≤ f j).card := by
  have h := net_map max min (· || ·) (· && ·) (fun x : α => decide (θ ≤ x))
    (fun a b => by simp [le_max_iff]) (fun a b => by simp [le_min_iff]) pairs f k
  rw [pairs_marks _ k hk] at h
  have e : (∑ j, (decide (θ ≤ f j)).toNat) = (Finset.univ.filter fun j => θ ≤ f j).card := by
    rw [Finset.card_filter]
    exact Finset.sum_congr rfl fun j _ => by by_cases hj : θ ≤ f j <;> simp [hj]
  rw [e] at h
  exact decide_eq_decide.mp h

end Cert.Hard

end
-- ==== Proof.TopSum.lean ====
module

public import Mathlib.Algebra.BigOperators.Fin
public import Mathlib.Data.Real.Basic
public import Mathlib.Algebra.Order.BigOperators.Group.Finset

/-!
Taking the sixteen largest by rounds.  Every lane holds its own values in descending order; a round
reads the largest value at the top of any lane, counts the lanes that show it and takes it off them.
Summing a function of the round's value, as often as the count says but not beyond sixteen in all,
gives the sum over the sixteen largest values of all lanes together.
-/

@[expose] public section

namespace Cert.Hard

variable {α ι : Type} [LinearOrder α] [Fintype ι]

/-- One round: the lanes that show `m` move up by one slot. -/
def pop (m : α) (f : ℕ → ι → α) : ℕ → ι → α := fun k l => if f 0 l = m then f (k + 1) l else f k l

/-- The lanes after `t` rounds. -/
def rounds (m : ℕ → α) (f : ℕ → ι → α) : ℕ → ℕ → ι → α
  | 0 => f
  | t + 1 => pop (m t) (rounds m f t)

/-- How many slots a lane has moved up in `t` rounds. -/
def moved (m : ℕ → α) (f : ℕ → ι → α) : ℕ → ι → ℕ
  | 0, _ => 0
  | t + 1, l => moved m f t l + if rounds m f t 0 l = m t then 1 else 0

/-- How many lanes show the round's value. -/
def shown (m : ℕ → α) (f : ℕ → ι → α) (t : ℕ) : ℕ := ∑ l, if rounds m f t 0 l = m t then 1 else 0

/-- How many lanes showed their round's value before round `t`. -/
def before (m : ℕ → α) (f : ℕ → ι → α) (t : ℕ) : ℕ := ∑ u ∈ Finset.range t, shown m f u

/-- After some rounds a lane's slot is the original one as many places further on as the lane has moved. -/
theorem rounds_eq (m : ℕ → α) (f : ℕ → ι → α) : ∀ (t k : ℕ) (l : ι), rounds m f t k l = f (k + moved m f t l) l
  | 0, _, _ => rfl
  | t + 1, k, l => by
    unfold rounds pop moved
    split_ifs with h
    · rw [rounds_eq m f t (k + 1) l]; congr 1; omega
    · rw [rounds_eq m f t k l, Nat.add_zero]

/-- What earlier rounds have shown is what the lanes have moved. -/
theorem before_eq (m : ℕ → α) (f : ℕ → ι → α) : ∀ t : ℕ, before m f t = ∑ l, moved m f t l
  | 0 => by simp [before, moved]
  | t + 1 => by
    have h := before_eq m f t
    unfold before at h ⊢
    rw [Finset.sum_range_succ, h, shown, ← Finset.sum_add_distrib]
    rfl

/-- A lane moves at most once a round. -/
theorem moved_le (m : ℕ → α) (f : ℕ → ι → α) : ∀ (t : ℕ) (l : ι), moved m f t l ≤ t
  | 0, _ => le_rfl
  | t + 1, l => by
    have := moved_le m f t l
    unfold moved
    split_ifs <;> omega

/-- The lanes' values: `N θ l` of lane `l`'s values are at least `θ`, and the first sixteen slots show
them in descending order.  `m` is the largest at the top of the lanes in each round. -/
structure Lanes (m : ℕ → α) (f : ℕ → ι → α) (N : α → ι → ℕ) : Prop where
  sorted : ∀ k, k < 16 → ∀ l θ, θ ≤ f k l ↔ k < N θ l
  anti : ∀ θ θ', θ ≤ θ' → ∀ l, N θ' l ≤ N θ l
  top : ∀ t, t < 16 → ∀ l, rounds m f t 0 l ≤ m t
  hit : ∀ t, t < 16 → ∃ l, rounds m f t 0 l = m t

variable {m : ℕ → α} {f : ℕ → ι → α} {N : α → ι → ℕ}

/-- Below a threshold above the round's value, a lane has moved past all its entries from that threshold up. -/
theorem Lanes.le_count (h : Lanes m f N) {t : ℕ} (ht : t < 16) (θ : α) (hθ : m t < θ) (l : ι) :
    N θ l ≤ moved m f t l := by
  by_contra hc
  rw [not_le] at hc
  have h1 := (h.sorted (moved m f t l) (by have := moved_le m f t l; omega) l θ).mpr hc
  have h2 := h.top t ht l
  rw [rounds_eq, Nat.zero_add] at h2
  exact absurd (lt_of_lt_of_le hθ (h1.trans h2)) (lt_irrefl _)

/-- A lane never moves past more entries than lie from the round's value up. -/
theorem Lanes.count_le (h : Lanes m f N) : ∀ (t : ℕ) (_ : t < 16) (l : ι), moved m f (t + 1) l ≤ N (m t) l
  | t, ht, l => by
    have step : moved m f t l ≤ N (m t) l := by
      cases t with
      | zero => exact Nat.zero_le _
      | succ t =>
        have ih := h.count_le t (by omega) l
        refine ih.trans (h.anti _ _ ?_ l)
        obtain ⟨l', hl'⟩ := h.hit (t + 1) ht
        rw [← hl', rounds_eq, Nat.zero_add]
        by_contra hc
        rw [not_le] at hc
        have h1 := h.le_count (t := t) (by omega) (f (moved m f (t + 1) l') l') hc l'
        have h2 := (h.sorted (moved m f (t + 1) l') (by have := moved_le m f (t + 1) l'; omega) l' _).mp le_rfl
        have h3 : moved m f t l' ≤ moved m f (t + 1) l' := by
          show _ ≤ moved m f t l' + _
          omega
        omega
    unfold moved
    split_ifs with hh
    · rw [rounds_eq, Nat.zero_add] at hh
      have := (h.sorted (moved m f t l) (by have := moved_le m f t l; omega) l (m t)).mp hh.ge
      omega
    · omega

/-- The values with `j` of all the lanes' values at or above them, between two rounds, are the round's value. -/
theorem Lanes.value (h : Lanes m f N) {s : ℕ → α} (hs : ∀ j, j < 16 → ∀ θ, θ ≤ s j ↔ j < ∑ l, N θ l)
    {t : ℕ} (ht : t < 16) {j : ℕ} (hj : j < 16) (h1 : before m f t ≤ j) (h2 : j < before m f (t + 1)) :
    s j = m t := by
  rw [before_eq] at h1 h2
  apply le_antisymm
  · by_contra hc
    rw [not_le] at hc
    have h3 := (hs j hj (s j)).mp le_rfl
    have h4 : ∑ l, N (s j) l ≤ ∑ l, moved m f t l := Finset.sum_le_sum fun l _ => h.le_count ht _ hc l
    omega
  · refine (hs j hj _).mpr (lt_of_lt_of_le h2 ?_)
    exact Finset.sum_le_sum fun l _ => h.count_le t ht l

/-- Each round shows at least one entry. -/
theorem Lanes.one_le (h : Lanes m f N) {t : ℕ} (ht : t < 16) : 1 ≤ shown m f t := by
  obtain ⟨l, hl⟩ := h.hit t ht
  unfold shown
  calc 1 = if rounds m f t 0 l = m t then 1 else 0 := by rw [if_pos hl]
    _ ≤ _ := Finset.single_le_sum (f := fun l => if rounds m f t 0 l = m t then 1 else 0)
      (fun _ _ => Nat.zero_le _) (Finset.mem_univ l)

/-- After so many rounds at least as many entries have been shown. -/
theorem Lanes.le_before (h : Lanes m f N) : ∀ t : ℕ, t ≤ 16 → t ≤ before m f t
  | 0, _ => Nat.zero_le _
  | t + 1, ht => by
    have h1 := h.le_before t (by omega)
    have h2 := h.one_le (t := t) (by omega)
    unfold before at h1 ⊢
    rw [Finset.sum_range_succ]
    omega

/-- The first round's value is the largest of all. -/
theorem Lanes.first (h : Lanes m f N) {s : ℕ → α} (hs : ∀ j, j < 16 → ∀ θ, θ ≤ s j ↔ j < ∑ l, N θ l) :
    s 0 = m 0 :=
  h.value hs (t := 0) (by omega) (by omega) (by simp [before]) (h.le_before 1 (by omega))

/-- The rounds' sum is the sum over the sixteen largest. -/
theorem Lanes.sum (h : Lanes m f N) {s : ℕ → α} (hs : ∀ j, j < 16 → ∀ θ, θ ≤ s j ↔ j < ∑ l, N θ l)
    (G : α → ℝ) :
    ∑ t ∈ Finset.range 16, ((min (shown m f t) (16 - before m f t) : ℕ) : ℝ) * G (m t)
      = ∑ j ∈ Finset.range 16, G (s j) := by
  have key : ∀ T, T ≤ 16 → ∑ t ∈ Finset.range T, ((min (shown m f t) (16 - before m f t) : ℕ) : ℝ) * G (m t)
      = ∑ j ∈ Finset.range (min 16 (before m f T)), G (s j) := by
    intro T
    induction T with
    | zero => intro _; simp [before]
    | succ T ih =>
      intro hT
      rw [Finset.sum_range_succ, ih (by omega)]
      have hb : before m f (T + 1) = before m f T + shown m f T := by
        unfold before; rw [Finset.sum_range_succ]
      have hn : min 16 (before m f (T + 1)) = min 16 (before m f T) + min (shown m f T) (16 - before m f T) := by
        omega
      rw [hn, Finset.sum_range_add]
      congr 1
      rw [Finset.sum_congr rfl (g := fun _ => G (m T)) (fun x hx => ?_)]
      · simp
      · rw [Finset.mem_range] at hx
        rw [h.value hs (t := T) (by omega) (by omega) (by omega) (by omega)]
  rw [key 16 le_rfl, min_eq_left (h.le_before 16 le_rfl)]

end Cert.Hard

end
-- ==== Proof.Stages.lean ====
module

public import proofs.«01_k».proof.Proof.Bridge
public import proofs.«01_k».proof.Proof.Network
public import proofs.«01_k».proof.Proof.TopSum

/-!
What the stages of the block's selection do, as whole vectors: the first seven run the comparator
network over the thirty-two column slices, the later ones take off the lanes that show the row's
largest value, round after round.
-/

@[expose] public section

open Idealize.ShloMosaic
open Cert.KernelIdeal Cert.KernelIdeal.Gen

set_option maxRecDepth 16384

namespace Cert.Hard

noncomputable section

/-- The larger and the smaller of two vectors, lane by lane. -/
abbrev mxv (a b : Col) : Col := maximumf a b
/-- The smaller of two columns, entry by entry. -/
abbrev mnv (a b : Col) : Col := minimumf a b

/-- The thirty-two column slices of the masked similarities. -/
def slices (v6 : FVec Ideal S256x4096 .f32) (v13 : IVec S256x4096 1) (v21 : FVec Ideal S256x4096 .f32) : Fin 32 → Col :=
  ![k0_pay9 v6 v13 v21, k0_pay10 v6 v13 v21, k0_pay11 v6 v13 v21, k0_pay12 v6 v13 v21, k0_pay13 v6 v13 v21, k0_pay14 v6 v13 v21, k0_pay15 v6 v13 v21, k0_pay16 v6 v13 v21,
    k0_pay17 v6 v13 v21, k0_pay18 v6 v13 v21, k0_pay19 v6 v13 v21, k0_pay20 v6 v13 v21, k0_pay21 v6 v13 v21, k0_pay22 v6 v13 v21, k0_pay23 v6 v13 v21, k0_pay24 v6 v13 v21,
    k0_pay25 v6 v13 v21, k0_pay26 v6 v13 v21, k0_pay27 v6 v13 v21, k0_pay28 v6 v13 v21, k0_pay29 v6 v13 v21, k0_pay30 v6 v13 v21, k0_pay31 v6 v13 v21, k0_pay32 v6 v13 v21,
    k0_pay33 v6 v13 v21, k0_pay34 v6 v13 v21, k0_pay35 v6 v13 v21, k0_pay36 v6 v13 v21, k0_pay37 v6 v13 v21, k0_pay38 v6 v13 v21, k0_pay39 v6 v13 v21, k0_pay40 v6 v13 v21]

/-- The second stretch of the kernel's text runs its comparators on the folded slices. -/
theorem stage2_eq (v6 : FVec Ideal S256x4096 .f32) (v13 : IVec S256x4096 1) (v21 : FVec Ideal S256x4096 .f32) :
    stage2 v6 v13 v21 = net mxv mnv seg2 (slices v6 v13 v21) := by
  funext k; fin_cases k <;> rfl

/-- The third stretch runs its comparators. -/
theorem stage3_eq (w : Fin 32 → Col) : stage3 w = net mxv mnv seg3 w := by
  funext k; fin_cases k <;> rfl

/-- The fourth stretch runs its comparators. -/
theorem stage4_eq (w : Fin 32 → Col) : stage4 w = net mxv mnv seg4 w := by
  funext k; fin_cases k <;> rfl

/-- The fifth stretch runs its comparators. -/
theorem stage5_eq (w : Fin 32 → Col) : stage5 w = net mxv mnv seg5 w := by
  funext k; fin_cases k <;> rfl

/-- The sixth stretch runs its comparators. -/
theorem stage6_eq (w : Fin 32 → Col) : stage6 w = net mxv mnv seg6 w := by
  funext k; fin_cases k <;> rfl

/-- The seventh stretch runs its comparators and keeps the first slices. -/
theorem stage7_eq (w : Fin 32 → Col) : stage7 w = fun k => net mxv mnv seg7 w (k.castLE (by decide)) := by
  funext k; fin_cases k <;> rfl

/-- One round on whole vectors: the lanes of slot 0 that show the row's largest value move up. -/
def popv (w : ℕ → Col) : ℕ → Col := fun k => select (k0_pay353 (w 0)) (w (k + 1)) (w k)

/-- Thirty-two slots, read at any number. -/
def spread (w : Fin 32 → Col) : ℕ → Col := fun k => w ⟨k % 32, Nat.mod_lt _ (by decide)⟩

/-- The eighth stretch runs the first extraction rounds. -/
theorem stage8_eq (w : Fin 32 → Col) :
    stage8 (fun k => w (k.castLE (by decide))) = fun k => popv (spread (net mxv mnv seg8 w)) k.val := by
  funext k; fin_cases k <;> rfl

/-- The lanes that the round after the eighth stretch finds. -/
theorem hits2_eq (w : Fin 32 → Col) :
    hits2 (fun k => w (k.castLE (by decide))) = k0_pay353 (popv (spread (net mxv mnv seg8 w)) 0) := by
  rfl

/-- The ninth stretch runs the next rounds. -/
theorem stage9_eq (w : ℕ → Col) :
    stage9 (fun k => w k.val) (k0_pay353 (w 0)) = fun k => popv (popv (popv w)) k.val := by
  funext k; fin_cases k <;> rfl

/-- The tenth stretch runs the next rounds. -/
theorem stage10_eq (w : ℕ → Col) :
    stage10 (fun k => w k.val) = fun k => popv (popv (popv w)) k.val := by
  funext k; fin_cases k <;> rfl

/-- The eleventh stretch runs the next rounds. -/
theorem stage11_eq (w : ℕ → Col) :
    stage11 (fun k => w k.val) = fun k => popv (popv (popv w)) k.val := by
  funext k; fin_cases k <;> rfl

/-- The lanes that the round after the eleventh stretch finds. -/
theorem hits11_eq (w : ℕ → Col) :
    hits11 (fun k => w k.val) = k0_pay353 (popv (popv (popv w)) 0) := by
  rfl

/-- The slots after `t` rounds. -/
def roundv (w : ℕ → Col) : ℕ → ℕ → Col
  | 0 => w
  | t + 1 => popv (roundv w t)

/-- The last stage, from the rounds: each round's largest value and how many lanes show it. -/
def finish (w : ℕ → Col) : Row1 :=
  k0_pay511 (k0_pay352 (roundv w 0 0)) (k0_pay354 (roundv w 0 0))
    (k0_pay352 (roundv w 1 0)) (k0_pay354 (roundv w 1 0))
    (k0_pay352 (roundv w 2 0)) (k0_pay354 (roundv w 2 0))
    (k0_pay352 (roundv w 3 0)) (k0_pay354 (roundv w 3 0))
    (k0_pay352 (roundv w 4 0)) (k0_pay354 (roundv w 4 0))
    (k0_pay352 (roundv w 5 0)) (k0_pay354 (roundv w 5 0))
    (k0_pay352 (roundv w 6 0)) (k0_pay354 (roundv w 6 0))
    (k0_pay352 (roundv w 7 0)) (k0_pay354 (roundv w 7 0))
    (k0_pay352 (roundv w 8 0)) (k0_pay354 (roundv w 8 0))
    (k0_pay352 (roundv w 9 0)) (k0_pay354 (roundv w 9 0))
    (k0_pay352 (roundv w 10 0)) (k0_pay354 (roundv w 10 0))
    (k0_pay352 (roundv w 11 0)) (k0_pay354 (roundv w 11 0))
    (k0_pay352 (roundv w 12 0)) (k0_pay354 (roundv w 12 0))
    (k0_pay352 (roundv w 13 0)) (k0_pay354 (roundv w 13 0))
    (k0_pay352 (roundv w 14 0)) (k0_pay354 (roundv w 14 0))
    (roundv w 15 0) (k0_pay352 (roundv w 15 0))
    (broadcastTo S256x128 (k0_pay352 (roundv w 15 0)) broadcasts_S256x1_S256x128)

/-- The last stretch runs the last rounds and the finish. -/
theorem lastStage_eq (w : Fin 32 → Col) :
    lastStage (fun k => w (k.castLE (by decide))) (fun k => roundv (spread (net mxv mnv seg8 w)) 1 k.val)
      (k0_pay353 (roundv (spread (net mxv mnv seg8 w)) 1 0))
      (fun k => roundv (spread (net mxv mnv seg8 w)) 4 k.val)
      (fun k => roundv (spread (net mxv mnv seg8 w)) 7 k.val)
      (fun k => roundv (spread (net mxv mnv seg8 w)) 10 k.val)
      (k0_pay353 (roundv (spread (net mxv mnv seg8 w)) 10 0))
      = finish (spread (net mxv mnv seg8 w)) := by
  sl_kernel_rfl

/-- The block's logarithm of the sum: the network, then the rounds. -/
theorem blockLse_eq (v6 : FVec Ideal S256x4096 .f32) (v13 : IVec S256x4096 1) (v21 : FVec Ideal S256x4096 .f32) :
    blockLse v6 v13 v21 = finish (spread (net mxv mnv pairs (slices v6 v13 v21))) := by
  have h : ∀ w : Fin 32 → Col, tailStages (fun k => w (k.castLE (by decide)))
      = finish (spread (net mxv mnv seg8 w)) := fun w => by
    unfold tailStages
    rw [stage8_eq, hits2_eq, stage9_eq, stage10_eq, stage11_eq, hits11_eq]
    exact lastStage_eq w
  unfold blockLse
  rw [stage7_eq, h, stage6_eq, stage5_eq, stage4_eq, stage3_eq, stage2_eq, pairs_eq]
  simp only [net_append]

end

end Cert.Hard

end
-- ==== Proof.RowSpec.lean ====
module

public import proofs.«01_k».proof.Proof.Stages
public import Idealize.ShloMosaic.Lib.Pointwise

/-!
One row of similarities, as extended reals: which entries count as hard negatives.  The reference
writes the choice with masks, the kernel with a threshold; they agree because every similarity is
below the constant that stands for "no value".
-/

@[expose] public section

open Classical

namespace Cert.Hard

noncomputable section

/-- The least similarity to a positive, or `c` when there is none: the reference's form. -/
def posLeast {n : ℕ} (S : Fin n → EReal) (P : Fin n → Prop) (i : Fin n) (c : EReal) : EReal :=
  Finset.univ.fold min ⊤ fun j => if P j ∧ j ≠ i then S j else c

/-- The reference's masked row: the semi-hard negatives if there is one, otherwise all negatives. -/
def refMask {n : ℕ} (S : Fin n → EReal) (P : Fin n → Prop) (i : Fin n) (c c' : EReal) (j : Fin n) : EReal :=
  if (if ∃ k, (¬P k ∧ k ≠ i) ∧ S k < posLeast S P i c then (¬P j ∧ j ≠ i) ∧ S j < posLeast S P i c
    else ¬P j ∧ j ≠ i) then S j else c'

/-- The least similarity to a positive, the kernel's form. -/
def kerLeast {n : ℕ} (S : Fin n → EReal) (P : Fin n → Prop) (i : Fin n) (c : EReal) : EReal :=
  Finset.univ.fold min ⊤ fun j => if P j then (if j = i then c else S j) else c

/-- The kernel's threshold. -/
def kerThr {n : ℕ} (S : Fin n → EReal) (P : Fin n → Prop) (i : Fin n) (c : EReal) : EReal :=
  if (Finset.univ.fold min ⊤ fun j => if P j then c else S j) < kerLeast S P i c then kerLeast S P i c else c

/-- The kernel's masked row. -/
def kerMask {n : ℕ} (S : Fin n → EReal) (P : Fin n → Prop) (i : Fin n) (c c' : EReal) (j : Fin n) : EReal :=
  if P j ∨ kerThr S P i c ≤ S j then c' else S j

/-- The kernel's least over equal labels, the row itself at the sentinel, is the least over the positives. -/
theorem kerLeast_eq {n : ℕ} (S : Fin n → EReal) (P : Fin n → Prop) (i : Fin n) (c : EReal) :
    kerLeast S P i c = posLeast S P i c := by
  unfold kerLeast posLeast
  congr 1
  funext j
  by_cases h1 : P j <;> by_cases h2 : j = i <;> simp [h1, h2]

/-- The least over the positives is at most the sentinel. -/
theorem posLeast_le {n : ℕ} (S : Fin n → EReal) (P : Fin n → Prop) (i : Fin n) (c : EReal) :
    posLeast S P i c ≤ c := by
  unfold posLeast
  rw [Finset.fold_min_le]
  exact Or.inr ⟨i, Finset.mem_univ _, by simp⟩

/-- The two masked rows agree. -/
theorem kerMask_eq {n : ℕ} (S : Fin n → EReal) (P : Fin n → Prop) (i : Fin n) (c c' : EReal)
    (hi : P i) (hS : ∀ j, S j < c) (j : Fin n) : kerMask S P i c c' j = refMask S P i c c' j := by
  have hne : ∀ k, ¬P k → k ≠ i := fun k hk e => hk (e ▸ hi)
  have hle := posLeast_le S P i c
  have hlt : (Finset.univ.fold min ⊤ fun j => if P j then c else S j) < posLeast S P i c
      ↔ ∃ k, (¬P k ∧ k ≠ i) ∧ S k < posLeast S P i c := by
    rw [Finset.fold_min_lt]
    constructor
    · rintro (h | ⟨k, _, hk⟩)
      · exact absurd h not_top_lt
      · by_cases hp : P k
        · rw [if_pos hp] at hk; exact absurd hk (not_lt.mpr hle)
        · rw [if_neg hp] at hk; exact ⟨k, ⟨hp, hne k hp⟩, hk⟩
    · rintro ⟨k, ⟨hp, _⟩, hk⟩
      exact Or.inr ⟨k, Finset.mem_univ _, by rw [if_neg hp]; exact hk⟩
  unfold kerMask refMask kerThr
  rw [kerLeast_eq]
  by_cases hex : ∃ k, (¬P k ∧ k ≠ i) ∧ S k < posLeast S P i c
  · rw [if_pos (hlt.mpr hex)]
    simp only [if_pos hex]
    by_cases hp : P j
    · simp [hp]
    · by_cases hs : S j < posLeast S P i c
      · rw [if_neg (by rintro (h | h); exacts [hp h, absurd h (not_le.mpr hs)]), if_pos ⟨⟨hp, hne j hp⟩, hs⟩]
      · rw [if_pos (Or.inr (not_lt.mp hs)), if_neg (fun h => hs h.2)]
  · rw [if_neg (fun h => hex (hlt.mp h))]
    simp only [if_neg hex]
    by_cases hp : P j
    · simp [hp]
    · rw [if_neg (by rintro (h | h); exacts [hp h, absurd h (not_le.mpr (hS j))]), if_pos ⟨hp, hne j hp⟩]

/-- How many positives a row has. -/
def posCount {n : ℕ} (P : Fin n → Prop) (i : Fin n) : ℕ := (Finset.univ.filter fun j => P j ∧ j ≠ i).card

/-- How many negatives a row has. -/
def negCount {n : ℕ} (P : Fin n → Prop) (i : Fin n) : ℕ := (Finset.univ.filter fun j => ¬P j ∧ j ≠ i).card

/-- The equal labels are the positives and the row itself. -/
theorem card_same {n : ℕ} (P : Fin n → Prop) (i : Fin n) (hi : P i) :
    (Finset.univ.filter fun j => P j).card = posCount P i + 1 := by
  unfold posCount
  have h : (Finset.univ.filter fun j => P j) = insert i (Finset.univ.filter fun j => P j ∧ j ≠ i) := by
    ext j
    simp only [Finset.mem_filter, Finset.mem_univ, true_and, Finset.mem_insert]
    by_cases e : j = i
    · simp [e, hi]
    · simp [e]
  rw [h, Finset.card_insert_of_notMem (by simp)]

/-- Positives, negatives and the row itself are all the rows. -/
theorem pos_add_neg {n : ℕ} (P : Fin n → Prop) (i : Fin n) (hi : P i) : posCount P i + negCount P i + 1 = n := by
  have h1 := card_same P i hi
  have h2 := Finset.card_filter_add_card_filter_not (s := (Finset.univ : Finset (Fin n))) (fun j => P j)
  have h3 : (Finset.univ.filter fun j => ¬P j) = Finset.univ.filter fun j => ¬P j ∧ j ≠ i := by
    ext j
    simp only [Finset.mem_filter, Finset.mem_univ, true_and]
    exact ⟨fun h => ⟨h, fun e => h (e ▸ hi)⟩, fun h => h.1⟩
  rw [h3, Finset.card_univ, Fintype.card_fin] at h2
  unfold negCount
  omega

/-- The similarities to the positives: all of the same label less the row's own. -/
theorem posSum_eq {n : ℕ} (S : Fin n → EReal) (P : Fin n → Prop) (i : Fin n) (hi : P i) (hS : ∃ a : ℝ, S i = a) :
    (∑ j, if P j then S j else 0) - S i = ∑ j, if P j ∧ j ≠ i then S j else 0 := by
  obtain ⟨a, ha⟩ := hS
  rw [← Finset.add_sum_erase _ _ (Finset.mem_univ i), if_pos hi]
  have h : (∑ j, if P j ∧ j ≠ i then S j else 0) = ∑ j ∈ Finset.univ.erase i, if P j then S j else 0 := by
    rw [← Finset.add_sum_erase _ _ (Finset.mem_univ i), if_neg (by simp), zero_add]
    refine Finset.sum_congr rfl fun j hj => ?_
    have := Finset.ne_of_mem_erase hj
    simp [this]
  rw [h, ha]
  generalize (∑ j ∈ Finset.univ.erase i, if P j then S j else 0) = z
  induction z using EReal.rec with
  | bot => rw [EReal.add_bot]; rfl
  | top => rw [EReal.coe_add_top]; exact EReal.top_sub_coe a
  | coe b => rw [← EReal.coe_add, ← EReal.coe_sub]; congr 1; ring

end

end Cert.Hard

end
-- ==== Proof.Last.lean ====
module

public import proofs.«01_k».proof.Proof.RowSpec
public import Idealize.ShloMosaic.Lib.Pointwise

/-!
The last stage of a block read at a row: from the sixteen largest values and how many lanes show each,
the logarithm of the sum of exponentials.
-/

@[expose] public section

set_option maxRecDepth 16384

open Idealize.ShloMosaic
open Cert.KernelIdeal Cert.KernelIdeal.Gen

namespace Cert.Hard

noncomputable section

/-- Sixteen columns side by side. -/
def beside (f : Fin 16 → Row1) : FVec Ideal S256x16 .f32 :=
  concatenate S256x16 1 (List.ofFn fun n : Fin 16 => ⟨S256x1, f n⟩) concatenates_S256x1_S256x1_S256x1_S256x1_S256x1_S256x1_S256x1_S256x1_S256x1_S256x1_S256x1_S256x1_S256x1_S256x1_S256x1_S256x1_S256x16_d1

/-- Each column of `beside`. -/
theorem beside_apply (f : Fin 16 → Row1) (r : Fin 256) (t : Fin 16) : beside f (ix2 r t) = f t (ix2 r 0) := by
  unfold beside
  refine concatenate_ofFn_unit_apply (t := S256x16) (s₁ := S256x1) 1 f _ rfl rfl (ix2 r t) t rfl (ix2 r 0) ?_
  intro b hb
  match b with
  | ⟨0, _⟩ => rfl
  | ⟨1, _⟩ => exact absurd rfl hb

/-- The step of the running sum that adds what lies one place to the left. -/
def scan1 (v : FVec Ideal S256x16 .f32) : FVec Ideal S256x16 .f32 :=
  addf v (extractStridedSlice S256x16 ![0, 0] (concatenate S256x17 1 [⟨S256x1, broadcast S256x1 (Scalar.sitofp (F := Ideal) .f32 0#32)⟩, ⟨S256x16, v⟩] concatenates_S256x1_S256x16_S256x17_d1) slices_S256x17_o0_0_S256x16)
/-- The step of the running sum that adds what lies two places to the left. -/
def scan2 (v : FVec Ideal S256x16 .f32) : FVec Ideal S256x16 .f32 :=
  addf v (extractStridedSlice S256x16 ![0, 0] (concatenate S256x18 1 [⟨S256x2, broadcast S256x2 (Scalar.sitofp (F := Ideal) .f32 0#32)⟩, ⟨S256x16, v⟩] concatenates_S256x2_S256x16_S256x18_d1) slices_S256x18_o0_0_S256x16)
/-- The step of the running sum that adds what lies four places to the left. -/
def scan4 (v : FVec Ideal S256x16 .f32) : FVec Ideal S256x16 .f32 :=
  addf v (extractStridedSlice S256x16 ![0, 0] (concatenate S256x20 1 [⟨S256x4, broadcast S256x4 (Scalar.sitofp (F := Ideal) .f32 0#32)⟩, ⟨S256x16, v⟩] concatenates_S256x4_S256x16_S256x20_d1) slices_S256x20_o0_0_S256x16)
/-- The step of the running sum that adds what lies eight places to the left. -/
def scan8 (v : FVec Ideal S256x16 .f32) : FVec Ideal S256x16 .f32 :=
  addf v (extractStridedSlice S256x16 ![0, 0] (concatenate S256x24 1 [⟨S256x8, broadcast S256x8 (Scalar.sitofp (F := Ideal) .f32 0#32)⟩, ⟨S256x16, v⟩] concatenates_S256x8_S256x16_S256x24_d1) slices_S256x24_o0_0_S256x16)

/-- One step of the running sum. -/
def shiftAdd {α : Type} [Add α] [Zero α] (d : ℕ) (c : ℕ → α) (t : ℕ) : α := c t + if t < d then 0 else c (t - d)

/-- Adding a shifted copy of whole numbers gives whole numbers. -/
theorem shiftAdd_cast (d : ℕ) (c : ℕ → ℕ) :
    shiftAdd d (fun t => (((c t : ℕ) : ℝ) : EReal)) = fun t => (((shiftAdd d c t : ℕ) : ℝ) : EReal) := by
  funext t
  unfold shiftAdd
  split
  · simp
  · rw [Nat.cast_add, EReal.coe_add]

/-- The four steps give the running sum. -/
theorem shiftAdd_sum (c : ℕ → ℕ) (t : ℕ) (ht : t < 16) :
    shiftAdd 8 (shiftAdd 4 (shiftAdd 2 (shiftAdd 1 c))) t = ∑ u ∈ Finset.range (t + 1), c u := by
  unfold shiftAdd
  interval_cases t <;> simp [Finset.sum_range_succ] <;> omega

/-- The first step read at one place. -/
theorem scan1_apply (v : FVec Ideal S256x16 .f32) (r : Fin 256) (c : ℕ → EReal)
    (h : ∀ t : Fin 16, v (ix2 r t) = c t.val) (t : Fin 16) : scan1 v (ix2 r t) = shiftAdd 1 c t.val := by
  unfold shiftAdd
  pointwise [scan1]
  simp only [h]
  split <;> simp
/-- The second step read at one place. -/
theorem scan2_apply (v : FVec Ideal S256x16 .f32) (r : Fin 256) (c : ℕ → EReal)
    (h : ∀ t : Fin 16, v (ix2 r t) = c t.val) (t : Fin 16) : scan2 v (ix2 r t) = shiftAdd 2 c t.val := by
  unfold shiftAdd
  pointwise [scan2]
  simp only [h]
  split <;> simp
/-- The third step read at one place. -/
theorem scan4_apply (v : FVec Ideal S256x16 .f32) (r : Fin 256) (c : ℕ → EReal)
    (h : ∀ t : Fin 16, v (ix2 r t) = c t.val) (t : Fin 16) : scan4 v (ix2 r t) = shiftAdd 4 c t.val := by
  unfold shiftAdd
  pointwise [scan4]
  simp only [h]
  split <;> simp
/-- The fourth step read at one place. -/
theorem scan8_apply (v : FVec Ideal S256x16 .f32) (r : Fin 256) (c : ℕ → EReal)
    (h : ∀ t : Fin 16, v (ix2 r t) = c t.val) (t : Fin 16) : scan8 v (ix2 r t) = shiftAdd 8 c t.val := by
  unfold shiftAdd
  pointwise [scan8]
  simp only [h]
  split <;> simp

/-- The last stage after the sixteen columns are side by side. -/
def lastv (mm cc : FVec Ideal S256x16 .f32) (m1 : Row1) : Row1 :=
  addf (divf m1 (broadcast S256x1 (Scalar.ofBits .f32 0x3D8F5C29#32)))
    (log (shapeCast S256x1 (multiReduction .add [1] S256
      (mulf (minimumf cc (maximumf (subf (broadcast S256x16 (Scalar.ofBits .f32 0x41800000#32))
          (subf (scan8 (scan4 (scan2 (scan1 cc)))) cc)) (broadcast S256x16 (Scalar.ofBits .f32 0x00000000#32))))
        (exp (divf (subf mm (broadcastTo S256x16 m1 broadcasts_S256x1_S256x16)) (broadcast S256x16 (Scalar.ofBits .f32 0x3D8F5C29#32)))))
      0x00000000#32 reduces_S256x16_S256 (.inl rfl) rfl) shapeCasts_S256_S256x1))

/-- The kernel's finish of the rows is the finish of the stacked values and counts. -/
theorem finish_eq (w : ℕ → Col) :
    finish w = lastv (beside fun t => k0_pay352 (roundv w t.val 0)) (beside fun t => k0_pay354 (roundv w t.val 0)) (k0_pay352 (roundv w 0 0)) := by
  sl_kernel_rfl

/-- The finish read at one row. -/
theorem lastv_apply (mm cc : FVec Ideal S256x16 .f32) (m1 : Row1) (r : Fin 256) :
    lastv mm cc m1 (ix2 r 0) = Ideal.div (m1 (ix2 r 0)) (Ideal.ofBits .f32 1032805417#32) + Ideal.log (∑ x : Fin 16,
      min (cc (ix2 r x)) (max (Ideal.ofBits .f32 1098907648#32 - (scan8 (scan4 (scan2 (scan1 cc))) (ix2 r x) - cc (ix2 r x))) 0)
        * Ideal.exp (Ideal.div (mm (ix2 r x) - m1 (ix2 r 0)) (Ideal.ofBits .f32 1032805417#32))) := by
  pointwise [lastv]

/-- A sum of reals, as an extended real. -/
theorem real_sum {ι : Type} (s : Finset ι) (f : ι → ℝ) : ((∑ a ∈ s, f a : ℝ) : EReal) = ∑ a ∈ s, ((f a : ℝ) : EReal) := by
  induction s using Finset.cons_induction with
  | empty => rfl
  | cons a s ha ih => rw [Finset.sum_cons, Finset.sum_cons, EReal.coe_add, ih]

/-- The temperature. -/
theorem temp_pos : ∃ T : ℝ, 0 < T ∧ Ideal.ofBits .f32 1032805417#32 = (T : EReal) := by
  refine ⟨_, ?_, by simp [Ideal.ofBits, Ideal.ieee, -EReal.coe_mul]; rfl⟩
  norm_num

/-- The literal sixteen is sixteen. -/
theorem sixteen : Ideal.ofBits .f32 1098907648#32 = ((16 : ℝ) : EReal) := by
  simp [Ideal.ofBits, Ideal.ieee, -EReal.coe_mul]; norm_num

/-- How many of a value's lanes still count, as the kernel computes it. -/
theorem take_eq (c p : ℕ) :
    min ((c : ℝ) : EReal) (max (((16 : ℝ) : EReal) - ((((p + c : ℕ) : ℝ) : EReal) - ((c : ℝ) : EReal))) 0)
      = (((min c (16 - p) : ℕ) : ℝ) : EReal) := by
  have h0 : (0 : EReal) = ((0 : ℝ) : EReal) := rfl
  rw [← EReal.coe_sub, ← EReal.coe_sub, h0, ← EReal.coe_strictMono.monotone.map_max, ← EReal.coe_strictMono.monotone.map_min]
  congr 1
  push_cast
  have h : (p : ℝ) + c - c = p := by ring
  rw [h]
  congr 1
  rcases le_total p 16 with hp | hp
  · rw [max_eq_left (by have : (p : ℝ) ≤ 16 := by exact_mod_cast hp
                        linarith), Nat.cast_sub hp]; norm_num
  · rw [max_eq_right (by have : (16 : ℝ) ≤ p := by exact_mod_cast hp
                         linarith), Nat.sub_eq_zero_of_le hp]; norm_num

/-- The last stage at a row: from the largest values `m` and the counts `c`. -/
theorem finish_row (w : ℕ → Col) (r : Fin 256) (m : ℕ → ℝ) (c : ℕ → ℕ) (T : ℝ) (hT0 : 0 < T)
    (hT : Ideal.ofBits .f32 1032805417#32 = (T : EReal))
    (hm : ∀ t < 16, k0_pay352 (roundv w t 0) (ix2 r 0) = ((m t : ℝ) : EReal))
    (hc : ∀ t < 16, k0_pay354 (roundv w t 0) (ix2 r 0) = (((c t : ℕ) : ℝ) : EReal)) :
    finish w (ix2 r 0) = ((m 0 / T : ℝ) : EReal) + Ideal.log ((∑ t ∈ Finset.range 16,
      ((min (c t) (16 - ∑ u ∈ Finset.range t, c u) : ℕ) : ℝ) * Real.exp ((m t - m 0) / T) : ℝ) : EReal) := by
  have hcc : ∀ t : Fin 16, beside (fun t => k0_pay354 (roundv w t.val 0)) (ix2 r t) = (((c t.val : ℕ) : ℝ) : EReal) :=
    fun t => by rw [beside_apply]; exact hc t.val t.isLt
  have hs := scan8_apply _ r _ (scan4_apply _ r _ (scan2_apply _ r _ (scan1_apply _ r (fun t => (((c t : ℕ) : ℝ) : EReal)) hcc)))
  rw [shiftAdd_cast, shiftAdd_cast, shiftAdd_cast, shiftAdd_cast] at hs
  beta_reduce at hs
  rw [finish_eq, lastv_apply, hm 0 (by norm_num), hT, sixteen, Finset.sum_range]
  have hdiv : ∀ x : ℝ, Ideal.div ((x : ℝ) : EReal) ((T : ℝ) : EReal) = ((x / T : ℝ) : EReal) := fun x => by
    rw [Ideal.div_coe (ne_of_gt hT0), ← EReal.coe_mul]; congr 1; ring
  rw [hdiv]
  congr 2
  rw [real_sum]
  refine Finset.sum_congr rfl fun t _ => ?_
  rw [hcc, hs, shiftAdd_sum c t.val t.isLt, Finset.sum_range_succ, take_eq, beside_apply, hm t.val t.isLt,
    ← EReal.coe_sub, hdiv, Ideal.exp_coe, ← EReal.coe_mul]

end

end Cert.Hard

end
-- ==== Proof.Block.lean ====
module

public import proofs.«01_k».proof.Proof.Last

/-!
The rounds of the last stage at one row: the lanes hold their sorted values, so the sum over the rounds
is the sum over the row's sixteen largest values.
-/

@[expose] public section

set_option maxRecDepth 16384

open Idealize.ShloMosaic
open Cert.KernelIdeal Cert.KernelIdeal.Gen

namespace Cert.Hard

noncomputable section

/-- The literal for minus infinity is the least extended real. -/
theorem neg_infinity : Ideal.ofBits .f32 4286578688#32 = (⊥ : EReal) := by
  simp [Ideal.ofBits, Ideal.ieee, -EReal.coe_mul]

/-- The literal for infinity is the greatest extended real. -/
theorem infinity : Ideal.ofBits .f32 2139095040#32 = (⊤ : EReal) := by
  simp [Ideal.ofBits, Ideal.ieee, -EReal.coe_mul]

/-- The first extracted value of a row is the largest of its first lane group. -/
theorem pay352_apply (g : Col) (r : Fin 256) :
    k0_pay352 g (ix2 r 0) = Finset.fold max ⊥ (fun x : Fin 128 => g (ix2 r x)) Finset.univ := by
  rw [← neg_infinity]
  pointwise [k0_pay352]

/-- Whether a lane holds the row's extracted value, as a bit. -/
theorem pay353_apply (g : Col) (r : Fin 256) (l : Fin 128) :
    k0_pay353 g (ix2 r l) = BitVec.ofBool (decide (g (ix2 r l) = k0_pay352 g (ix2 r 0))) := by
  pointwise [k0_pay353]

/-- How many lanes hold the row's extracted value, as a number. -/
theorem pay354_apply (g : Col) (r : Fin 256) :
    k0_pay354 g (ix2 r 0) = ∑ x : Fin 128, FloatOps.sitofp (F := Ideal) .f32 (BitVec.setWidth 32 (k0_pay353 g (ix2 r x))) := by
  pointwise [k0_pay354]

/-- A truth value as a number. -/
theorem sitofp_ofBool (p : Prop) [Decidable p] :
    FloatOps.sitofp (F := Ideal) .f32 (BitVec.setWidth 32 (BitVec.ofBool (decide p))) = (((if p then 1 else 0 : ℕ) : ℝ) : EReal) := by
  show (((BitVec.setWidth 32 (BitVec.ofBool (decide p))).toInt : ℝ) : EReal) = _
  by_cases h : p
  · simp [h]
  · simp [h]

/-- Selecting by the bit of a proposition is choosing by the proposition. -/
theorem select_ofBool {α : Type} (p : Prop) [Decidable p] (a b : α) :
    Scalar.select (BitVec.ofBool (decide p)) a b = if p then a else b := by
  by_cases h : p
  · simp [Scalar.select, h]
  · simp [Scalar.select, h]

/-- The largest value of a row, round by round. -/
def top (w : ℕ → Col) (r : Fin 256) (t : ℕ) : EReal := k0_pay352 (roundv w t 0) (ix2 r 0)

/-- The row's lanes. -/
def lanes (w : ℕ → Col) (r : Fin 256) (k : ℕ) (l : Fin 128) : EReal := w k (ix2 r l)

/-- The vector form of the extraction rounds, read at one row and lane, is the rounds of that row. -/
theorem roundv_apply (w : ℕ → Col) (r : Fin 256) : ∀ (t k : ℕ) (l : Fin 128),
    roundv w t k (ix2 r l) = rounds (top w r) (lanes w r) t k l
  | 0, _, _ => rfl
  | t + 1, k, l => by
    have h0 := roundv_apply w r t 0 l
    have h1 := roundv_apply w r t (k + 1) l
    have h2 := roundv_apply w r t k l
    show Scalar.select (k0_pay353 (roundv w t 0) (ix2 r l)) (roundv w t (k + 1) (ix2 r l)) (roundv w t k (ix2 r l)) = _
    rw [pay353_apply, select_ofBool, h0, h1, h2]
    rfl

/-- A round's count at one row is the number of lanes that show the round's value. -/
theorem count_apply (w : ℕ → Col) (r : Fin 256) (t : ℕ) :
    k0_pay354 (roundv w t 0) (ix2 r 0) = (((shown (top w r) (lanes w r) t : ℕ) : ℝ) : EReal) := by
  rw [pay354_apply]
  unfold shown
  rw [Nat.cast_sum, real_sum]
  refine Finset.sum_congr rfl fun l _ => ?_
  rw [pay353_apply, sitofp_ofBool, roundv_apply]
  show _ = (((if rounds (top w r) (lanes w r) t 0 l = k0_pay352 (roundv w t 0) (ix2 r 0) then 1 else 0 : ℕ) : ℝ) : EReal)
  by_cases h : rounds (top w r) (lanes w r) t 0 l = k0_pay352 (roundv w t 0) (ix2 r 0)
  · rw [if_pos h]
  · rw [if_neg h]

/-- Every lane's current value is at most the round's value. -/
theorem top_le (w : ℕ → Col) (r : Fin 256) (t : ℕ) (l : Fin 128) : rounds (top w r) (lanes w r) t 0 l ≤ top w r t := by
  rw [← roundv_apply]
  unfold top
  rw [pay352_apply]
  exact Finset.le_fold_max _ |>.mpr (Or.inr ⟨l, Finset.mem_univ _, le_rfl⟩)

/-- Some lane's current value is the round's value. -/
theorem top_hit (w : ℕ → Col) (r : Fin 256) (t : ℕ) : ∃ l, rounds (top w r) (lanes w r) t 0 l = top w r t := by
  have h : top w r t ≤ Finset.fold max ⊥ (fun x : Fin 128 => roundv w t 0 (ix2 r x)) Finset.univ := by
    rw [← pay352_apply]; exact le_rfl
  rcases (Finset.le_fold_max _).mp h with h | ⟨l, _, h⟩
  · exact ⟨0, le_antisymm (top_le w r t 0) (h.trans bot_le)⟩
  · refine ⟨l, le_antisymm (top_le w r t l) ?_⟩
    rw [← roundv_apply]; exact h

/-- The slots before the rounds: what the network leaves. -/
theorem lanes_apply (s : Fin 32 → Col) (r : Fin 256) (k : ℕ) (hk : k < 32) (l : Fin 128) :
    lanes (spread (net mxv mnv pairs s)) r k l = net max min pairs (fun q => s q (ix2 r l)) ⟨k, hk⟩ := by
  have h : (⟨k % 32, Nat.mod_lt _ (by decide)⟩ : Fin 32) = ⟨k, hk⟩ := Fin.ext (Nat.mod_eq_of_lt hk)
  show net mxv mnv pairs s ⟨k % 32, _⟩ (ix2 r l) = _
  rw [h]
  exact net_map mxv mnv max min (fun v : Col => v (ix2 r l)) (fun _ _ => rfl) (fun _ _ => rfl) pairs s ⟨k, hk⟩

/-- How many of a lane's thirty-two values are at least `θ`. -/
def atLeast (s : Fin 32 → Col) (r : Fin 256) (θ : EReal) (l : Fin 128) : ℕ :=
  (Finset.univ.filter fun q : Fin 32 => θ ≤ s q (ix2 r l)).card

/-- Lanes whose slots are sorted meet the conditions the extraction asks for. -/
theorem lanes_ok (s : Fin 32 → Col) (r : Fin 256) :
    Lanes (top (spread (net mxv mnv pairs s)) r) (lanes (spread (net mxv mnv pairs s)) r) (atLeast s r) where
  sorted k hk l θ := by
    rw [lanes_apply s r k (by omega) l]
    exact pairs_values (fun q => s q (ix2 r l)) ⟨k, by omega⟩ hk θ
  anti θ θ' h l := Finset.card_le_card fun q hq => by
    simp only [Finset.mem_filter, Finset.mem_univ, true_and] at hq ⊢
    exact h.trans hq
  top t _ l := top_le _ r t l
  hit t _ := top_hit _ r t

/-- The block's value at a row, from the row's sixteen largest values `s`. -/
theorem finish_sorted (s : Fin 32 → Col) (r : Fin 256) (hfin : ∀ q l, ∃ a : ℝ, s q (ix2 r l) = (a : EReal))
    (g : ℕ → ℝ) (T : ℝ) (hT0 : 0 < T) (hT : Ideal.ofBits .f32 1032805417#32 = (T : EReal))
    (hg : ∀ j < 16, ∀ θ : EReal, θ ≤ (g j : EReal) ↔ j < ∑ l, atLeast s r θ l) :
    finish (spread (net mxv mnv pairs s)) (ix2 r 0) = ((g 0 / T : ℝ) : EReal)
      + Ideal.log ((∑ j ∈ Finset.range 16, Real.exp ((g j - g 0) / T) : ℝ) : EReal) := by
  have L := lanes_ok s r
  have hnet : ∀ (k : ℕ) (l : Fin 128), ∃ a : ℝ, lanes (spread (net mxv mnv pairs s)) r k l = (a : EReal) := by
    intro k l
    choose a ha using hfin
    refine ⟨net max min pairs (fun q => a q l) ⟨k % 32, Nat.mod_lt _ (by decide)⟩, ?_⟩
    have h := net_map mxv mnv max min (fun v : Col => v (ix2 r l)) (fun _ _ => rfl) (fun _ _ => rfl) pairs s
      ⟨k % 32, Nat.mod_lt _ (by decide)⟩
    have h' := net_map max min max min (fun x : ℝ => (x : EReal)) (fun _ _ => EReal.coe_strictMono.monotone.map_max)
      (fun _ _ => EReal.coe_strictMono.monotone.map_min) pairs (fun q => a q l) ⟨k % 32, Nat.mod_lt _ (by decide)⟩
    refine h.trans ?_
    rw [h']
    congr 1
    funext q
    exact ha q l
  have htop : ∀ t < 16, ∃ a : ℝ, top (spread (net mxv mnv pairs s)) r t = (a : EReal) := by
    intro t ht
    obtain ⟨l, hl⟩ := L.hit t ht
    rw [← hl, rounds_eq]
    exact hnet _ _
  have hm : ∀ t < 16, top (spread (net mxv mnv pairs s)) r t = ((top (spread (net mxv mnv pairs s)) r t).toReal : EReal) := by
    intro t ht
    obtain ⟨a, ha⟩ := htop t ht
    rw [ha, EReal.toReal_coe]
  have h0 := L.first (s := fun j => (g j : EReal)) hg
  have hsum := L.sum (s := fun j => (g j : EReal)) hg fun x => Real.exp ((x.toReal - g 0) / T)
  have hm0 : (top (spread (net mxv mnv pairs s)) r 0).toReal = g 0 := by rw [← h0, EReal.toReal_coe]
  have hrow := finish_row _ r (fun t => (top (spread (net mxv mnv pairs s)) r t).toReal) _ T hT0 hT hm fun t _ => count_apply _ r t
  beta_reduce at hrow
  rw [hm0] at hrow
  simp only [EReal.toReal_coe] at hsum
  refine hrow.trans ?_
  exact congrArg (fun x : ℝ => ((g 0 / T : ℝ) : EReal) + Ideal.log (x : EReal)) hsum

end

end Cert.Hard

end
-- ==== Proof.Payload.lean ====
module

public import proofs.«01_k».proof.Proof.Block

/-!
The pieces of a block's computation, read at one index.
-/

@[expose] public section

set_option maxRecDepth 16384

open Idealize.ShloMosaic
open Cert.KernelIdeal Cert.KernelIdeal.Gen

namespace Cert.Hard

noncomputable section

/-- The constant that stands for "no positive". -/
abbrev big : EReal := Ideal.ofBits .f32 1315859240#32

/-- The constant that stands for "no negative". -/
abbrev small : EReal := Ideal.ofBits .f32 3463342888#32

/-- The block's similarities are sums of products. -/
theorem pay2_read (x0 : Vec Ideal S256x64 .f32) (x1 : Vec Ideal S64x4096 .f32) (r : Fin 256) (l : Fin 4096) :
    k0_pay2 x0 x1 (ix2 r l) = ∑ x : Fin 64, x0 (ix2 r x) * x1 (ix2 x l) := by
  pointwise [k0_pay2]

/-- The block's label comparison. -/
theorem pay3_read (x2 : Vec Ideal S256x1 .i32) (x3 : Vec Ideal S1x4096 .i32) (r : Fin 256) (l : Fin 4096) :
    k0_pay3 (F := Ideal) x2 x3 (ix2 r l) = IntOp.cmpi .eq (x2 (ix2 r 0)) (x3 (ix2 0 l)) := by
  pointwise [k0_pay3]

/-- The similarities with the row's own place replaced by the sentinel. -/
theorem pay4_read (i : grid0.Coords) (x0 : Vec Ideal S256x64 .f32) (x1 : Vec Ideal S64x4096 .f32) (r : Fin 256) (l : Fin 4096) :
    k0_pay4 i x0 x1 (ix2 r l) = Scalar.select (IntOp.cmpi .eq (BitVec.ofNat 32 l.val)
      (IntOp.addi (BitVec.ofNat 32 r.val) (Scalar.muli (BitVec.ofNat 32 (i 0).val) 256#32))) big (k0_pay2 x0 x1 (ix2 r l)) := by
  pointwise [k0_pay4]

/-- The count of a row's equal labels, less one. -/
theorem pay6_read (x2 : Vec Ideal S256x1 .i32) (x3 : Vec Ideal S1x4096 .i32) (r : Fin 256) :
    k0_pay6 (F := Ideal) x2 x3 (ix2 r 0) = (∑ x : Fin 4096, FloatOps.sitofp (F := Ideal) .f32 (BitVec.setWidth 32 (k0_pay3 (F := Ideal) x2 x3 (ix2 r x)))) - 1 := by
  pointwise [k0_pay6, k0_pay5]

/-- The sum of the similarities over equal labels, less the row's own. -/
theorem pay7_read (x0 : Vec Ideal S256x64 .f32) (x1 : Vec Ideal S64x4096 .f32) (x2 : Vec Ideal S256x1 .i32) (x3 : Vec Ideal S1x4096 .i32) (r : Fin 256) :
    k0_pay7 x0 x1 x2 x3 x0 x0 (ix2 r 0) = (∑ x : Fin 4096, FloatOps.sitofp (F := Ideal) .f32 (BitVec.setWidth 32 (k0_pay3 (F := Ideal) x2 x3 (ix2 r x))) * k0_pay2 x0 x1 (ix2 r x))
      - ∑ x : Fin 64, x0 (ix2 r x) * x0 (ix2 r x) := by
  pointwise [k0_pay7, k0_pay5]

/-- The masked similarities: the threshold and the mask as the kernel writes them. -/
theorem pay8_read (v6 : FVec Ideal S256x4096 .f32) (v13 : IVec S256x4096 1) (v21 : FVec Ideal S256x4096 .f32) (r : Fin 256) (l : Fin 4096) :
    k0_pay8 v6 v13 v21 (ix2 r l) = Scalar.select (IntOp.ori (v13 (ix2 r l)) (BitVec.ofBool (decide
      ((if Finset.fold min (Ideal.ofBits .f32 2139095040#32) (fun x : Fin 4096 => Scalar.select (v13 (ix2 r x)) big (v6 (ix2 r x))) Finset.univ
          < Finset.fold min (Ideal.ofBits .f32 2139095040#32) (fun x : Fin 4096 => Scalar.select (v13 (ix2 r x)) (v21 (ix2 r x)) big) Finset.univ
        then Finset.fold min (Ideal.ofBits .f32 2139095040#32) (fun x : Fin 4096 => Scalar.select (v13 (ix2 r x)) (v21 (ix2 r x)) big) Finset.univ
        else big) ≤ v6 (ix2 r l))))) small (v6 (ix2 r l)) := by
  pointwise [k0_pay8]

/-- A row's mean positive similarity: the sum over the count, the count at least one. -/
theorem pay512_read (a b : FVec Ideal S256x1 .f32) (r : Fin 256) :
    k0_pay512 a b (ix2 r 0) = Ideal.div (b (ix2 r 0)) (max (a (ix2 r 0)) 1) := by
  pointwise [k0_pay512]

/-- Whether a row takes part, as a number. -/
theorem pay513_read (a : FVec Ideal S256x1 .f32) (r : Fin 256) :
    k0_pay513 a (ix2 r 0) = IntOp.andi (BitVec.ofBool (decide (0 < a (ix2 r 0))))
      (BitVec.ofBool (decide (0 < Ideal.ofBits .f32 1166012416#32 - a (ix2 r 0)))) := by
  pointwise [k0_pay513]

/-- The new sum: the old one and the block's losses of the rows that take part. -/
theorem pay514_read (a b c : FVec Ideal S256x1 .f32) (d e : Ideal .f32) :
    k0_pay514 a b c d e = e + ∑ r : Fin 256, Scalar.select (k0_pay513 a (ix2 r 0))
      (Ideal.div (d - c (ix2 r 0)) (Ideal.ofBits .f32 1032805417#32) + b (ix2 r 0)) 0 := by
  pointwise [k0_pay514]
  simp only [Finset.univ_unique, Finset.sum_singleton]

/-- The new count: the old one and the block's rows that take part. -/
theorem pay515_read (a : FVec Ideal S256x1 .f32) (e : Ideal .f32) :
    k0_pay515 a e = e + ∑ r : Fin 256, FloatOps.sitofp (F := Ideal) .f32 (BitVec.setWidth 32 (k0_pay513 a (ix2 r 0))) := by
  pointwise [k0_pay515]
  simp only [Finset.univ_unique, Finset.sum_singleton]

end

end Cert.Hard

end
-- ==== Proof.Spec.lean ====
module

public import proofs.«01_k».proof.Proof.Payload

/-!
One row of the loss, told over the embeddings and the labels, and the block's pieces in those terms.
-/

@[expose] public section

set_option maxRecDepth 16384

open Classical
open Idealize.ShloMosaic
open Cert.KernelIdeal Cert.KernelIdeal.Gen

namespace Cert.Hard

noncomputable section

/-- A slice of a block's row. -/
theorem slice_read (x : FVec Ideal S256x4096 .f32) (off : ℕ) (h : S256x4096.Slices ![0, off] S256x128) (r : Fin 256) (l : Fin 128)
    (j : Fin 4096) (hj : j.val = off + l.val) : extractStridedSlice S256x128 ![0, off] x h (ix2 r l) = x (ix2 r j) := by
  refine congrArg x ?_
  funext a
  match a with
  | ⟨0, _⟩ => exact Fin.ext (Nat.zero_add _)
  | ⟨1, _⟩ => exact Fin.ext hj.symm

/-- The folded slices of the masked similarities, read at an entry. -/
theorem slices_read (v6 : FVec Ideal S256x4096 .f32) (v13 : IVec S256x4096 1) (v21 : FVec Ideal S256x4096 .f32) (r : Fin 256)
    (q : Fin 32) (l : Fin 128) (j : Fin 4096) (hj : j.val = 128 * q.val + l.val) :
    slices v6 v13 v21 q (ix2 r l) = k0_pay8 v6 v13 v21 (ix2 r j) := by
  fin_cases q <;> exact slice_read (k0_pay8 v6 v13 v21) _ (by decide) r l j hj

/-- The embeddings and the labels. -/
abbrev Emb := Fin 4096 → Fin 64 → EReal
/-- One label for each row. -/
abbrev Lab := Fin 4096 → BitVec 32

/-- The similarity of two rows. -/
def sim (A : Emb) (i j : Fin 4096) : EReal := ∑ x : Fin 64, A i x * A j x

/-- Two rows of one label. -/
def same (L : Lab) (i j : Fin 4096) : Prop := L i = L j

/-- A row that takes part: it has a positive and a negative. -/
def takesPart (L : Lab) (i : Fin 4096) : Prop := 0 < posCount (same L i) i ∧ 0 < negCount (same L i) i

/-- The sum of the similarities to the positives. -/
def posSum (A : Emb) (L : Lab) (i : Fin 4096) : EReal := ∑ j, if same L i j ∧ j ≠ i then sim A i j else 0

/-- What the precondition gives: every similarity is a real number below the constant that stands for
"no positive". -/
structure Fine (A : Emb) : Prop where
  real : ∀ i j, ∃ a : ℝ, sim A i j = (a : EReal)
  below : ∀ i j, sim A i j < big

/-- The masked row of the reference. -/
def masked (A : Emb) (L : Lab) (i j : Fin 4096) : EReal := refMask (sim A i) (same L i) i big small j

/-- `g` lists the sixteen largest entries of the masked row. -/
def Lists (A : Emb) (L : Lab) (i : Fin 4096) (g : ℕ → ℝ) : Prop :=
  ∀ j < 16, ∀ θ : EReal, θ ≤ (g j : EReal) ↔ j < (Finset.univ.filter fun k => θ ≤ masked A L i k).card

/-- The loss of a row, from the mean similarity to the positives and the sixteen largest masked entries. -/
def rowLoss (A : Emb) (L : Lab) (g : Fin 4096 → ℕ → ℝ) (T : ℝ) (i : Fin 4096) : EReal :=
  Ideal.div (-Ideal.div (posSum A L i) (((max (posCount (same L i) i) 1 : ℕ) : ℝ) : EReal)) (T : EReal)
    + (((g i 0 / T : ℝ) : EReal) + Ideal.log ((∑ j ∈ Finset.range 16, Real.exp ((g i j - g i 0) / T) : ℝ) : EReal))

/-- The lower sentinel is a real number. -/
theorem small_real : ∃ a : ℝ, small = (a : EReal) :=
  ⟨_, by simp [small, Ideal.ofBits, Ideal.ieee, -EReal.coe_mul]; rfl⟩

/-- Every masked entry is a real number. -/
theorem masked_real (A : Emb) (L : Lab) (h : Fine A) (i j : Fin 4096) : ∃ a : ℝ, masked A L i j = (a : EReal) := by
  unfold masked refMask
  split_ifs
  all_goals first | exact h.real i j | exact small_real

/-- The row of the whole array that a block's row is. -/
def rowOf (b : Fin 16) (r : Fin 256) : Fin 4096 := ⟨256 * b.val + r.val, by omega⟩

/-- The blocks a point of the grid reads. -/
structure Blk (A : Emb) (L : Lab) (b : Fin 16) (i : grid0.Coords) (x0 : Vec Ideal S256x64 .f32) (x1 : Vec Ideal S64x4096 .f32)
    (x2 : Vec Ideal S256x1 .i32) (x3 : Vec Ideal S1x4096 .i32) : Prop where
  point : (i 0).val = b.val
  emb : ∀ r x, x0 (ix2 r x) = A (rowOf b r) x
  embT : ∀ x j, x1 (ix2 x j) = A j x
  labC : ∀ r, x2 (ix2 r 0) = L (rowOf b r)
  labR : ∀ j, x3 (ix2 0 j) = L j

variable {A : Emb} {L : Lab} {b : Fin 16} {i : grid0.Coords} {x0 : Vec Ideal S256x64 .f32} {x1 : Vec Ideal S64x4096 .f32}
  {x2 : Vec Ideal S256x1 .i32} {x3 : Vec Ideal S1x4096 .i32}

/-- Comparing two words for equality gives the bit of their equality. -/
theorem cmpi_eq {w : ℕ} (x y : BitVec w) : IntOp.cmpi .eq x y = BitVec.ofBool (decide (x = y)) := by
  show BitVec.ofBool (x == y) = _
  congr 1

/-- A block's similarities are those of its rows. -/
theorem Blk.pay2 (h : Blk A L b i x0 x1 x2 x3) (r : Fin 256) (j : Fin 4096) : k0_pay2 x0 x1 (ix2 r j) = sim A (rowOf b r) j := by
  rw [pay2_read]
  exact Finset.sum_congr rfl fun x _ => by rw [h.emb, h.embT]

/-- A block's label comparison is that of its rows. -/
theorem Blk.pay3 (h : Blk A L b i x0 x1 x2 x3) (r : Fin 256) (j : Fin 4096) :
    k0_pay3 (F := Ideal) x2 x3 (ix2 r j) = BitVec.ofBool (decide (same L (rowOf b r) j)) := by
  rw [pay3_read, h.labC, h.labR, cmpi_eq]
  congr 1
  exact decide_eq_decide.mpr Iff.rfl

/-- A block's similarities with the diagonal at the sentinel are those of its rows. -/
theorem Blk.pay4 (h : Blk A L b i x0 x1 x2 x3) (r : Fin 256) (j : Fin 4096) :
    k0_pay4 i x0 x1 (ix2 r j) = if j = rowOf b r then big else sim A (rowOf b r) j := by
  rw [pay4_read, h.pay2, cmpi_eq, select_ofBool, h.point]
  have e : (BitVec.ofNat 32 j.val = IntOp.addi (BitVec.ofNat 32 r.val) (Scalar.muli (BitVec.ofNat 32 b.val) 256#32)) ↔ j = rowOf b r := by
    show (BitVec.ofNat 32 j.val = BitVec.ofNat 32 r.val + BitVec.ofNat 32 b.val * 256#32) ↔ _
    rw [← BitVec.toNat_inj, Fin.ext_iff]
    simp only [BitVec.toNat_add, BitVec.toNat_mul, BitVec.toNat_ofNat, rowOf]
    have := j.isLt; have := r.isLt; have := b.isLt
    omega
  by_cases hj : j = rowOf b r
  · rw [if_pos hj, if_pos (e.mpr hj)]
  · rw [if_neg hj, if_neg (fun hh => hj (e.mp hh))]

/-- A block's label comparison counted as a number. -/
theorem Blk.counted (h : Blk A L b i x0 x1 x2 x3) (r : Fin 256) (j : Fin 4096) :
    FloatOps.sitofp (F := Ideal) .f32 (BitVec.setWidth 32 (k0_pay3 (F := Ideal) x2 x3 (ix2 r j)))
      = (((if same L (rowOf b r) j then 1 else 0 : ℕ) : ℝ) : EReal) := by
  rw [h.pay3, sitofp_ofBool]

/-- A row has its own label. -/
theorem same_self (L : Lab) (i : Fin 4096) : same L i i := rfl

/-- A block's count of positives is that of its rows. -/
theorem Blk.pay6 (h : Blk A L b i x0 x1 x2 x3) (r : Fin 256) :
    k0_pay6 (F := Ideal) x2 x3 (ix2 r 0) = (((posCount (same L (rowOf b r)) (rowOf b r) : ℕ) : ℝ) : EReal) := by
  rw [pay6_read, Finset.sum_congr rfl fun j _ => h.counted r j, ← real_sum, ← Nat.cast_sum, ← Finset.card_filter,
    card_same _ _ (same_self L (rowOf b r))]
  have h1 : (1 : EReal) = ((1 : ℝ) : EReal) := rfl
  rw [h1, ← EReal.coe_sub]
  congr 1
  push_cast
  ring

/-- A block's sum of positive similarities is that of its rows. -/
theorem Blk.pay7 (h : Blk A L b i x0 x1 x2 x3) (hA : Fine A) (r : Fin 256) :
    k0_pay7 x0 x1 x2 x3 x0 x0 (ix2 r 0) = posSum A L (rowOf b r) := by
  rw [pay7_read]
  have h1 : (∑ x : Fin 64, x0 (ix2 r x) * x0 (ix2 r x)) = sim A (rowOf b r) (rowOf b r) :=
    Finset.sum_congr rfl fun x _ => by rw [h.emb]
  have h2 : (∑ j : Fin 4096, FloatOps.sitofp (F := Ideal) .f32 (BitVec.setWidth 32 (k0_pay3 (F := Ideal) x2 x3 (ix2 r j))) * k0_pay2 x0 x1 (ix2 r j))
      = ∑ j, if same L (rowOf b r) j then sim A (rowOf b r) j else 0 :=
    Finset.sum_congr rfl fun j _ => by
      rw [h.counted, h.pay2]
      by_cases hs : same L (rowOf b r) j
      · rw [if_pos hs, if_pos hs]; simp
      · rw [if_neg hs, if_neg hs]; simp
  rw [h1, h2]
  exact posSum_eq (sim A (rowOf b r)) (same L (rowOf b r)) (rowOf b r) (same_self L _) (hA.real _ _)

/-- A block's masked similarities are those of its rows. -/
theorem Blk.pay8 (h : Blk A L b i x0 x1 x2 x3) (hA : Fine A) (r : Fin 256) (j : Fin 4096) :
    k0_pay8 (k0_pay2 x0 x1) (k0_pay3 (F := Ideal) x2 x3) (k0_pay4 i x0 x1) (ix2 r j) = masked A L (rowOf b r) j := by
  rw [pay8_read, masked, ← kerMask_eq _ _ _ _ _ (same_self L _) (hA.below _)]
  have e1 : (fun x : Fin 4096 => Scalar.select (k0_pay3 (F := Ideal) x2 x3 (ix2 r x)) big (k0_pay2 x0 x1 (ix2 r x)))
      = fun x => if same L (rowOf b r) x then big else sim A (rowOf b r) x := by
    funext x; rw [h.pay3, select_ofBool, h.pay2]
  have e2 : (fun x : Fin 4096 => Scalar.select (k0_pay3 (F := Ideal) x2 x3 (ix2 r x)) (k0_pay4 i x0 x1 (ix2 r x)) big)
      = fun x => if same L (rowOf b r) x then (if x = rowOf b r then big else sim A (rowOf b r) x) else big := by
    funext x; rw [h.pay3, select_ofBool, h.pay4]
  rw [e1, e2, infinity, h.pay3, h.pay2]
  unfold kerMask
  have e3 : ∀ p q : Prop, IntOp.ori (BitVec.ofBool (decide p)) (BitVec.ofBool (decide q)) = BitVec.ofBool (decide (p ∨ q)) := by
    intro p q
    by_cases hp : p <;> by_cases hq : q <;> simp [hp, hq, IntOp.ori]
  have e4 : kerThr (sim A (rowOf b r)) (same L (rowOf b r)) (rowOf b r) big
      = if Finset.fold min ⊤ (fun x => if same L (rowOf b r) x then big else sim A (rowOf b r) x) Finset.univ
          < Finset.fold min ⊤ (fun x => if same L (rowOf b r) x then (if x = rowOf b r then big else sim A (rowOf b r) x) else big) Finset.univ
        then Finset.fold min ⊤ (fun x => if same L (rowOf b r) x then (if x = rowOf b r then big else sim A (rowOf b r) x) else big) Finset.univ
        else big := rfl
  rw [e4]
  generalize Finset.fold min ⊤ (fun x => if same L (rowOf b r) x then (if x = rowOf b r then big else sim A (rowOf b r) x) else big) Finset.univ = pm
  generalize Finset.fold min ⊤ (fun x => if same L (rowOf b r) x then big else sim A (rowOf b r) x) Finset.univ = nm
  by_cases h1 : nm < pm
  · simp only [if_pos h1]
    by_cases hp : same L (rowOf b r) j <;> by_cases hq : pm ≤ sim A (rowOf b r) j <;> simp [hp, hq, IntOp.ori, Scalar.select]
  · simp only [if_neg h1]
    by_cases hp : same L (rowOf b r) j <;> by_cases hq : big ≤ sim A (rowOf b r) j <;> simp [hp, hq, IntOp.ori, Scalar.select]

/-- Whether a block's row takes part is what the row's two counts say. -/
theorem Blk.pay513 (h : Blk A L b i x0 x1 x2 x3) (r : Fin 256) :
    k0_pay513 (k0_pay6 (F := Ideal) x2 x3) (ix2 r 0) = BitVec.ofBool (decide (takesPart L (rowOf b r))) := by
  rw [pay513_read, h.pay6]
  have hn := pos_add_neg (same L (rowOf b r)) (rowOf b r) (same_self L _)
  have hc : Ideal.ofBits .f32 1166012416#32 = ((4095 : ℝ) : EReal) := by
    simp [Ideal.ofBits, Ideal.ieee, -EReal.coe_mul]; norm_num
  have e1 : (0 : EReal) < (((posCount (same L (rowOf b r)) (rowOf b r) : ℕ) : ℝ) : EReal) ↔ 0 < posCount (same L (rowOf b r)) (rowOf b r) := by
    rw [← EReal.coe_zero, EReal.coe_lt_coe_iff]; exact Nat.cast_pos
  have e2 : (0 : EReal) < Ideal.ofBits .f32 1166012416#32 - (((posCount (same L (rowOf b r)) (rowOf b r) : ℕ) : ℝ) : EReal)
      ↔ 0 < negCount (same L (rowOf b r)) (rowOf b r) := by
    rw [hc, ← EReal.coe_sub, ← EReal.coe_zero, EReal.coe_lt_coe_iff]
    have : (4095 : ℝ) - ((posCount (same L (rowOf b r)) (rowOf b r) : ℕ) : ℝ) = ((negCount (same L (rowOf b r)) (rowOf b r) : ℕ) : ℝ) := by
      have h' : ((posCount (same L (rowOf b r)) (rowOf b r) + negCount (same L (rowOf b r)) (rowOf b r) + 1 : ℕ) : ℝ) = ((4096 : ℕ) : ℝ) := by
        rw [hn]
      push_cast at h'
      linarith
    rw [this]
    exact Nat.cast_pos
  unfold takesPart
  by_cases h1 : 0 < posCount (same L (rowOf b r)) (rowOf b r) <;> by_cases h2 : 0 < negCount (same L (rowOf b r)) (rowOf b r) <;>
    simp only [decide_eq_true (e1.mpr _), decide_eq_false (mt e1.mp _), h1, h2, e1, e2, IntOp.andi] <;> simp

end

end Cert.Hard

end
-- ==== Proof.KerBlock.lean ====
module

public import proofs.«01_k».proof.Proof.Spec

/-!
A block's part in the two totals: the sum over its rows of the losses of those that take part, and how
many do.
-/

@[expose] public section

set_option maxRecDepth 16384

open Classical
open Idealize.ShloMosaic
open Cert.KernelIdeal Cert.KernelIdeal.Gen

namespace Cert.Hard

noncomputable section

variable {A : Emb} {L : Lab} {b : Fin 16} {i : grid0.Coords} {x0 : Vec Ideal S256x64 .f32} {x1 : Vec Ideal S64x4096 .f32}
  {x2 : Vec Ideal S256x1 .i32} {x3 : Vec Ideal S1x4096 .i32}

/-- Counting a row's entries lane by lane. -/
theorem lane_count (p : Fin 4096 → Prop) :
    (∑ l : Fin 128, (Finset.univ.filter fun q : Fin 32 => p ⟨128 * q.val + l.val, by omega⟩).card)
      = (Finset.univ.filter fun k => p k).card := by
  simp only [Finset.card_filter]
  rw [Finset.sum_comm, ← Fintype.sum_prod_type' (f := fun (q : Fin 32) (l : Fin 128) => if p ⟨128 * q.val + l.val, by omega⟩ then 1 else 0)]
  refine Fintype.sum_equiv (finProdFinEquiv (m := 32) (n := 128)) _ (fun k : Fin 4096 => if p k then 1 else 0) fun x => ?_
  have h : (⟨128 * x.1.val + x.2.val, by omega⟩ : Fin 4096) = finProdFinEquiv (m := 32) (n := 128) x :=
    Fin.ext (by simp [finProdFinEquiv]; omega)
  rw [h]

/-- A folded slice of a block's masked row, entry by entry, is the row's masked entries. -/
theorem Blk.slices (h : Blk A L b i x0 x1 x2 x3) (hA : Fine A) (r : Fin 256) (q : Fin 32) (l : Fin 128) :
    slices (k0_pay2 x0 x1) (k0_pay3 (F := Ideal) x2 x3) (k0_pay4 i x0 x1) q (ix2 r l)
      = masked A L (rowOf b r) ⟨128 * q.val + l.val, by omega⟩ := by
  rw [slices_read _ _ _ r q l ⟨128 * q.val + l.val, by omega⟩ rfl, h.pay8 hA]

/-- The block's logarithm of the sum at a row. -/
theorem Blk.lse (h : Blk A L b i x0 x1 x2 x3) (hA : Fine A) (r : Fin 256) (g : ℕ → ℝ) (hg : Lists A L (rowOf b r) g)
    (T : ℝ) (hT0 : 0 < T) (hT : Ideal.ofBits .f32 1032805417#32 = (T : EReal)) :
    blockLse (k0_pay2 x0 x1) (k0_pay3 (F := Ideal) x2 x3) (k0_pay4 i x0 x1) (ix2 r 0) = ((g 0 / T : ℝ) : EReal)
      + Ideal.log ((∑ j ∈ Finset.range 16, Real.exp ((g j - g 0) / T) : ℝ) : EReal) := by
  rw [blockLse_eq]
  refine finish_sorted _ r ?_ g T hT0 hT ?_
  · intro q l
    rw [h.slices hA]
    exact masked_real A L hA _ _
  · intro j hj θ
    rw [hg j hj θ]
    refine iff_of_eq (congrArg (j < ·) ?_)
    unfold atLeast
    simp only [h.slices hA]
    symm
    convert lane_count (fun k => θ ≤ masked A L (rowOf b r) k)

/-- The block's part in the sum of losses. -/
theorem Blk.sumNew (h : Blk A L b i x0 x1 x2 x3) (hA : Fine A) (g : Fin 4096 → ℕ → ℝ) (hg : ∀ k, Lists A L k (g k))
    (T : ℝ) (hT0 : 0 < T) (hT : Ideal.ofBits .f32 1032805417#32 = (T : EReal)) (old : Ideal .f32) :
    sumNew i x0 x1 x2 x3 old
      = old + ∑ r : Fin 256, if takesPart L (rowOf b r) then rowLoss A L g T (rowOf b r) else 0 := by
  unfold Hard.sumNew
  rw [pay514_read]
  refine congrArg (old + ·) (Finset.sum_congr rfl fun r _ => ?_)
  rw [h.pay513, select_ofBool, h.lse hA r (g (rowOf b r)) (hg _) T hT0 hT, pay512_read, h.pay6, h.pay7 hA, hT]
  have h0 : (FloatOps.ofBits (F := Ideal) .f32 0#32 : EReal) = 0 := by
    show Ideal.ofBits .f32 0#32 = 0
    simp [Ideal.ofBits, Ideal.ieee, -EReal.coe_mul]
  have h1 : max (((posCount (same L (rowOf b r)) (rowOf b r) : ℕ) : ℝ) : EReal) 1
      = (((max (posCount (same L (rowOf b r)) (rowOf b r)) 1 : ℕ) : ℝ) : EReal) := by
    rw [Nat.cast_max, EReal.coe_strictMono.monotone.map_max, Nat.cast_one, EReal.coe_one]
  rw [h0, h1, sub_eq_add_neg, zero_add]
  rfl

/-- The block's part in the count. -/
theorem Blk.cntNew (h : Blk A L b i x0 x1 x2 x3) (old : Ideal .f32) :
    cntNew x2 x3 old = old + ((∑ r : Fin 256, (if takesPart L (rowOf b r) then 1 else 0) : ℕ) : ℝ) := by
  unfold Hard.cntNew
  rw [pay515_read, Nat.cast_sum, real_sum]
  refine congrArg (old + ·) (Finset.sum_congr rfl fun r _ => ?_)
  rw [h.pay513, sitofp_ofBool]

end

end Cert.Hard

end
-- ==== Proof.TopK.lean ====
module

public import proofs.«01_k».proof.Proof.RowSpec
public import proofs.«01_k».proof.Proof.Gen.ReferenceIdeal.Read
public import Idealize.ShloMosaic.Lib.SortFacts

/-!
The reference's sixteen greatest entries of a row, told by counting: an entry of the result is at
least `θ` exactly when enough entries of the row are.
-/

@[expose] public section

open Classical
open Idealize.ShloMosaic

namespace Cert.Hard

noncomputable section

/-- A row put in falling order by a permutation: position `k` holds at least `θ` exactly when more
than `k` entries are at least `θ`. -/
theorem falling_count {n : ℕ} {α : Type} [LinearOrder α] (σ : Fin n → Fin n) (hσ : Function.Bijective σ)
    (g : Fin n → α) (h : ∀ a b, a < b → g (σ b) ≤ g (σ a)) (k : Fin n) (θ : α) :
    θ ≤ g (σ k) ↔ k.val < (Finset.univ.filter fun j => θ ≤ g j).card := by
  have hc : (Finset.univ.filter fun j => θ ≤ g j).card = (Finset.univ.filter fun j => θ ≤ g (σ j)).card := by
    refine (Finset.card_bij (fun a _ => σ a) ?_ ?_ ?_).symm
    · intro a ha; simpa using ha
    · intro a _ b _ e; exact hσ.1 e
    · intro b hb
      obtain ⟨a, rfl⟩ := hσ.2 b
      exact ⟨a, by simpa using hb, rfl⟩
  have hle : ∀ a b, a ≤ b → g (σ b) ≤ g (σ a) := fun a b hab => by
    rcases lt_or_eq_of_le hab with e | e
    · exact h a b e
    · rw [e]
  rw [hc]
  constructor
  · intro hk
    have hs : Finset.Iic k ⊆ Finset.univ.filter fun j => θ ≤ g (σ j) := fun a ha => by
      simp only [Finset.mem_filter, Finset.mem_univ, true_and]
      exact le_trans hk (hle a k (Finset.mem_Iic.mp ha))
    have := Finset.card_le_card hs
    rw [Fin.card_Iic] at this
    omega
  · intro hk
    by_contra hn
    have hs : (Finset.univ.filter fun j => θ ≤ g (σ j)) ⊆ Finset.Iio k := fun a ha => by
      simp only [Finset.mem_filter, Finset.mem_univ, true_and] at ha
      rw [Finset.mem_Iio]
      by_contra hak
      exact hn (le_trans ha (hle k a (not_lt.mp hak)))
    have := Finset.card_le_card hs
    rw [Fin.card_Iio] at this
    omega

/-- The reference's sort of each row, as a permutation of the row in falling order. -/
theorem topK_perm (X : Cert.ReferenceIdeal.S4096x4096.Idx → EReal) (r : Fin 4096) :
    ∃ σ : Fin 4096 → Fin 4096, Function.Bijective σ ∧ (∀ a b, a < b → X (ix2 r (σ b)) ≤ X (ix2 r (σ a))) ∧
      ∀ k : Fin 16, (Host.topK Cert.ReferenceIdeal.S4096x16 1 (FloatOps.cmpfTotal (F := Ideal) (φ := .f32) .gt) X
        Cert.ReferenceIdeal.Gen.sliceFits_S4096x4096_S4096x16).1 (ix2 r k) = X (ix2 r (σ ⟨k.val, by omega⟩)) := by
  let R : Fin 4096 → Fin 4096 → Bool := fun a b =>
    FloatOps.cmpfTotal (F := Ideal) (φ := .f32) .gt (X (ix2 r a)) (X (ix2 r b)) == 1#1
  have hR : ∀ a b, R a b = decide (X (ix2 r b) < X (ix2 r a)) := fun a b => by
    show (BitVec.ofBool (decide (X (ix2 r b) < X (ix2 r a))) == 1#1) = _
    cases decide (X (ix2 r b) < X (ix2 r a)) <;> rfl
  refine ⟨sortedFrom R, ⟨sortedFrom_injective R, sortedFrom_surjective R⟩, ?_, ?_⟩
  · intro a b hab
    have := sortedFrom_noInversion R R ?_ (fun _ _ h => h) ?_ a b hab
    · rw [hR] at this
      exact not_lt.mp (of_decide_eq_false this)
    · intro a b h
      rw [hR] at h ⊢
      exact decide_eq_false (not_lt.mpr (le_of_lt (of_decide_eq_true h)))
    · intro a b c h1 h2
      rw [hR] at h1 h2 ⊢
      exact decide_eq_false (not_lt.mpr (le_trans (not_lt.mp (of_decide_eq_false h1)) (not_lt.mp (of_decide_eq_false h2))))
  · intro k
    let J : Cert.ReferenceIdeal.S4096x4096.Idx := fun a =>
      ⟨0 + (((ix2 r k) : Cert.ReferenceIdeal.S4096x16.Idx) a).val, by
        match a with
        | ⟨0, _⟩ => show 0 + r.val < 4096; omega
        | ⟨1, _⟩ => show 0 + k.val < 4096; omega⟩
    have hJ : ∀ q : Fin 4096, Shape.Idx.along J 1 q = ix2 r q := by
      intro q
      funext a
      match a with
      | ⟨0, _⟩ =>
        exact (Function.update_of_ne (by decide : (0 : Fin Cert.ReferenceIdeal.S4096x4096.rank) ≠ 1) _ _).trans
          (Fin.ext (Nat.zero_add _))
      | ⟨1, _⟩ => exact Function.update_self _ _ _
    show X (Shape.Idx.along J 1 (sortedFrom (fun a b => FloatOps.cmpfTotal (F := Ideal) (φ := .f32) .gt
      (X (Shape.Idx.along J 1 a)) (X (Shape.Idx.along J 1 b)) == 1#1) (J 1))) = _
    have hf : (fun a b : Fin 4096 => FloatOps.cmpfTotal (F := Ideal) (φ := .f32) .gt
      (X (Shape.Idx.along J 1 a)) (X (Shape.Idx.along J 1 b)) == 1#1) = R := by
      funext a b
      rw [hJ, hJ]
    have hk : J 1 = (⟨k.val, by omega⟩ : Fin 4096) := Fin.ext (Nat.zero_add _)
    refine (congrArg X (hJ _)).trans (congrArg (fun q => X (ix2 r q)) ?_)
    exact (congrArg (fun f => sortedFrom f (J 1)) hf).trans (congrArg (sortedFrom R) hk)

/-- An entry of the reference's sixteen is at least `θ` exactly when enough entries of the row are. -/
theorem topK_count (X : Cert.ReferenceIdeal.S4096x4096.Idx → EReal) (r : Fin 4096) (k : Fin 16) (θ : EReal) :
    θ ≤ (Host.topK Cert.ReferenceIdeal.S4096x16 1 (FloatOps.cmpfTotal (F := Ideal) (φ := .f32) .gt) X
        Cert.ReferenceIdeal.Gen.sliceFits_S4096x4096_S4096x16).1 (ix2 r k)
      ↔ k.val < (Finset.univ.filter fun j => θ ≤ X (ix2 r j)).card := by
  obtain ⟨σ, h1, h2, h3⟩ := topK_perm X r
  rw [h3]
  exact falling_count σ h1 (fun j => X (ix2 r j)) h2 ⟨k.val, by omega⟩ θ

end

end Cert.Hard

end
-- ==== Proof.RefRow.lean ====
module

public import proofs.«01_k».proof.Proof.KerBlock
public import proofs.«01_k».proof.Proof.TopK
public import Idealize.ShloMosaic.Lib.IndicatorCount
public import Idealize.ShloMosaic.Lib.Routing.OpsOrder

/-!
The reference's stages read at a row, in the same terms as the block's.
-/

@[expose] public section

set_option maxRecDepth 16384

open Classical
open Idealize.ShloMosaic
open Cert.ReferenceIdeal Cert.ReferenceIdeal.Gen Cert.ReferenceIdeal.Read

namespace Cert.Hard

noncomputable section

/-- The embeddings and the labels of the reference's arrays. -/
def embOf (x0 : (⟨S4096x64, .f32⟩ : BufTy).Contents (Elt Ideal)) : Emb := fun i x => x0 (ix2 i x)
/-- The labels as the reference's second argument holds them. -/
def labOf (x1 : (⟨S4096, .i32⟩ : BufTy).Contents (Elt Ideal)) : Lab := fun i => x1 (ix1 i)

variable (x0 : (⟨S4096x64, .f32⟩ : BufTy).Contents (Elt Ideal)) (x1 : (⟨S4096, .i32⟩ : BufTy).Contents (Elt Ideal))

/-- The conjunction of two bits is the bit of the conjunction. -/
theorem ofBool_and (p q : Prop) [Decidable p] [Decidable q] [Decidable (p ∧ q)] :
    IntOp.andi (BitVec.ofBool (decide p)) (BitVec.ofBool (decide q)) = BitVec.ofBool (decide (p ∧ q)) := by
  by_cases hp : p <;> by_cases hq : q <;> simp [hp, hq, IntOp.andi]

/-- The complement of a bit is the bit of the negation. -/
theorem ofBool_not (p : Prop) [Decidable p] [Decidable (¬p)] : ~~~(BitVec.ofBool (decide p)) = BitVec.ofBool (decide (¬p)) := by
  by_cases hp : p <;> simp [hp]

/-- Equivalent propositions have the same bit. -/
theorem ofBool_congr {p q : Prop} [Decidable p] [Decidable q] (h : p ↔ q) :
    BitVec.ofBool (decide p) = BitVec.ofBool (decide q) := congrArg BitVec.ofBool (decide_eq_decide.mpr h)

/-- The reference's similarities. -/
theorem v1_read (i j : Fin 4096) : val_main_v1 (F := Ideal) x0 (ix2 i j) = sim (embOf x0) i j := by
  show _ = ∑ x : Fin 64, x0 (ix2 i x) * x0 (ix2 j x)
  pointwise [val_main_v1, val_main_v0]

/-- The reference's label comparison. -/
theorem v6_read (i j : Fin 4096) : val_main_v6 (F := Ideal) x1 (ix2 i j) = BitVec.ofBool (decide (same (labOf x1) i j)) := by
  have h : val_main_v6 (F := Ideal) x1 (ix2 i j) = IntOp.cmpi .eq (x1 (ix1 i)) (x1 (ix1 j)) := by
    pointwise [val_main_v6, val_main_v4, val_main_v5, val_main_v2, val_main_v3]
  rw [h, cmpi_eq]
  exact ofBool_congr Iff.rfl

/-- The reference's diagonal. -/
theorem v11_read (i j : Fin 4096) : val_main_v11 (F := Ideal) (ix2 i j) = BitVec.ofBool (decide (j = i)) := by
  have h : val_main_v11 (F := Ideal) (ix2 i j)
      = IntOp.cmpi .eq (IntOp.addi (BitVec.ofNat 32 i.val) 0#32) (BitVec.ofNat 32 j.val) := by
    pointwise [val_main_v11, val_main_v10, val_main_v9, val_main_v8, val_main_v7, val_main_c]
  rw [h, cmpi_eq]
  have e : (IntOp.addi (BitVec.ofNat 32 i.val) 0#32 = BitVec.ofNat 32 j.val) ↔ j = i := by
    show (BitVec.ofNat 32 i.val + 0#32 = BitVec.ofNat 32 j.val) ↔ _
    rw [← BitVec.toNat_inj, Fin.ext_iff]
    simp only [BitVec.toNat_add, BitVec.toNat_ofNat]
    have := j.isLt; have := i.isLt
    omega
  congr 1
  exact decide_eq_decide.mpr e

/-- The reference's mask of positives. -/
theorem v13_read (i j : Fin 4096) :
    val_main_v13 (F := Ideal) x1 (ix2 i j) = BitVec.ofBool (decide (same (labOf x1) i j ∧ j ≠ i)) := by
  rw [val_main_v13_apply, val_main_v12_apply, v6_read, v11_read, ofBool_not, ofBool_and]

/-- The reference's mask of negatives. -/
theorem v16_read (i j : Fin 4096) :
    val_main_v16 (F := Ideal) x1 (ix2 i j) = BitVec.ofBool (decide (¬same (labOf x1) i j ∧ j ≠ i)) := by
  rw [val_main_v16_apply, val_main_v15_apply, val_main_v14_apply, v6_read, v11_read, ofBool_not, ofBool_not, ofBool_and]

/-- There are at most as many positives as rows. -/
theorem posCount_le (P : Fin 4096 → Prop) (i : Fin 4096) : posCount P i ≤ 4096 :=
  (Finset.card_filter_le _ _).trans (by rw [Finset.card_univ, Fintype.card_fin])

/-- There are at most as many negatives as rows. -/
theorem negCount_le (P : Fin 4096 → Prop) (i : Fin 4096) : negCount P i ≤ 4096 :=
  (Finset.card_filter_le _ _).trans (by rw [Finset.card_univ, Fintype.card_fin])

/-- The bit of a proposition is one exactly when it holds. -/
theorem ofBool_one (p : Prop) [Decidable p] : BitVec.ofBool (decide p) = 1#1 ↔ p := by
  by_cases hp : p <;> simp [hp]

/-- A sum of truth values as words counts. -/
theorem fold_count (p : Fin 4096 → Prop) [∀ j, Decidable (p j)] :
    Finset.univ.fold IntOp.addi 0#32 (fun j => (BitVec.ofBool (decide (p j))).setWidth 32)
      = BitVec.ofNat 32 (Finset.univ.filter fun j => p j).card := by
  rw [IndicatorCount.fold_addi_setWidth_eq_card (fun j => BitVec.ofBool (decide (p j)))]
  simp only [ofBool_one]

/-- The reference's count of a row's positives. -/
theorem v18_read (i : Fin 4096) :
    val_main_v18 (F := Ideal) x1 (ix1 i) = BitVec.ofNat 32 (posCount (same (labOf x1) i) i) := by
  have h : val_main_v18 (F := Ideal) x1 (ix1 i) = Finset.fold IntOp.addi (val_main_c_0 (F := Ideal) (Shape.Idx.first h_S_))
      (fun j : Fin 4096 => BitVec.setWidth 32 (val_main_v13 (F := Ideal) x1 (ix2 i j))) Finset.univ := by
    pointwise [val_main_v18, val_main_v17]
  rw [h, val_main_c_0_apply]
  simp only [v13_read]
  exact fold_count _

/-- The reference's count of a row's negatives. -/
theorem v20_read (i : Fin 4096) :
    val_main_v20 (F := Ideal) x1 (ix1 i) = BitVec.ofNat 32 (negCount (same (labOf x1) i) i) := by
  have h : val_main_v20 (F := Ideal) x1 (ix1 i) = Finset.fold IntOp.addi (val_main_c_1 (F := Ideal) (Shape.Idx.first h_S_))
      (fun j : Fin 4096 => BitVec.setWidth 32 (val_main_v16 (F := Ideal) x1 (ix2 i j))) Finset.univ := by
    pointwise [val_main_v20, val_main_v19]
  rw [h, val_main_c_1_apply]
  simp only [v16_read]
  exact fold_count _

/-- A small count is positive as a signed word when it is positive. -/
theorem sgt_ofNat (n : ℕ) (hn : n ≤ 4096) : IntOp.cmpi .sgt (BitVec.ofNat 32 n) 0#32 = BitVec.ofBool (decide (0 < n)) := by
  show BitVec.ofBool (BitVec.slt 0#32 (BitVec.ofNat 32 n)) = _
  congr 1
  rw [BitVec.slt_eq_decide]
  apply decide_eq_decide.mpr
  have h : (BitVec.ofNat 32 n).toInt = n := by
    rw [BitVec.toInt_eq_toNat_of_lt] <;> rw [BitVec.toNat_ofNat] <;> omega
  rw [h, BitVec.toInt_zero]
  omega

/-- Whether a row takes part, in the reference. -/
theorem v25_read (i : Fin 4096) : val_main_v25 (F := Ideal) x1 (ix1 i) = BitVec.ofBool (decide (takesPart (labOf x1) i)) := by
  have h1 : val_main_v21 (F := Ideal) (ix1 i) = 0#32 := by pointwise [val_main_v21, val_main_c_2]
  have h2 : val_main_v23 (F := Ideal) (ix1 i) = 0#32 := by pointwise [val_main_v23, val_main_c_3]
  rw [val_main_v25_apply, val_main_v22_apply, val_main_v24_apply, v18_read, v20_read, h1, h2,
    sgt_ofNat _ (posCount_le _ _), sgt_ofNat _ (negCount_le _ _), ofBool_and]
  exact ofBool_congr Iff.rfl

/-- The least positive similarity of a row, the sentinel if it has none. -/
theorem v27_read (i : Fin 4096) :
    val_main_v27 (F := Ideal) x0 x1 (ix1 i) = posLeast (sim (embOf x0) i) (same (labOf x1) i) i big := by
  have h : val_main_v27 (F := Ideal) x0 x1 (ix1 i) = Finset.fold min (Ideal.ofBits .f32 2139095040#32)
      (fun j : Fin 4096 => val_main_v26 (F := Ideal) x0 x1 (ix2 i j)) Finset.univ := by
    pointwise [val_main_v27, val_main_cst_4]
  have h2 : ∀ j, val_main_call0_v1 (F := Ideal) (ix2 i j) = big := fun j => by
    pointwise [val_main_call0_v1, val_main_call0_v0, val_main_cst]
    rfl
  rw [h, infinity]
  unfold posLeast
  refine congrArg (fun f => Finset.fold min ⊤ f Finset.univ) (funext fun j => ?_)
  rw [val_main_v26_apply, v13_read, v1_read, h2, select_ofBool]

/-- The reference's semi-hard negatives. -/
def semi (i j : Fin 4096) : Prop :=
  (¬same (labOf x1) i j ∧ j ≠ i) ∧ sim (embOf x0) i j < posLeast (sim (embOf x0) i) (same (labOf x1) i) i big

/-- The reference's mask of semi-hard negatives. -/
theorem v31_read (i j : Fin 4096) : val_main_v31 (F := Ideal) x0 x1 (ix2 i j) = BitVec.ofBool (decide (semi x0 x1 i j)) := by
  have e : idx_main_v28 (idx_main_v29 (ix2 i j)) = ix1 i := funext fun a => match a with | ⟨0, _⟩ => rfl
  rw [val_main_v31_apply, val_main_v30_apply, val_main_v29_apply, val_main_v28_apply, e, v27_read, v16_read, v1_read]
  have h : ∀ a b : EReal, FloatOps.cmpf (F := Ideal) (φ := .f32) .olt a b = BitVec.ofBool (decide (a < b)) := fun a b => by
    show Ideal.cmp .olt a b = _
    unfold Ideal.cmp
    congr 1
  rw [h]
  rw [ofBool_and]
  exact ofBool_congr Iff.rfl

/-- Whether a row has a semi-hard negative, in the reference. -/
theorem v32_read (i : Fin 4096) : val_main_v32 (F := Ideal) x0 x1 (ix1 i) = BitVec.ofBool (decide (∃ j, semi x0 x1 i j)) := by
  have h : val_main_v32 (F := Ideal) x0 x1 (ix1 i) = Finset.fold IntOp.ori (val_main_c_5 (F := Ideal) (Shape.Idx.first h_S_))
      (fun j : Fin 4096 => val_main_v31 (F := Ideal) x0 x1 (ix2 i j)) Finset.univ := by
    pointwise [val_main_v32]
  rw [val_main_c_5_apply] at h
  have h1 := Routing.fold_ori Finset.univ (fun j : Fin 4096 => val_main_v31 (F := Ideal) x0 x1 (ix2 i j))
  rw [← h] at h1
  simp only [v31_read, ofBool_one, Finset.mem_univ, true_and] at h1
  have hb : ∀ v : BitVec 1, v = 0#1 ∨ v = 1#1 := by decide
  by_cases he : ∃ j, semi x0 x1 i j
  · rw [h1.mpr he, (ofBool_one _).mpr he]
  · rcases hb (val_main_v32 (F := Ideal) x0 x1 (ix1 i)) with h0 | h0
    · rw [h0, decide_eq_false he]; rfl
    · exact absurd (h1.mp h0) he

/-- The reference's masked similarities. -/
theorem v35_read (i j : Fin 4096) : val_main_v35 (F := Ideal) x0 x1 (ix2 i j) = masked (embOf x0) (labOf x1) i j := by
  have e : idx_main_v33 (idx_main_call1_v0 (ix2 i j)) = ix1 i := funext fun a => match a with | ⟨0, _⟩ => rfl
  have h2 : val_main_call2_v1 (F := Ideal) (ix2 i j) = small := by
    pointwise [val_main_call2_v1, val_main_call2_v0, val_main_cst_6]
    rfl
  rw [val_main_v35_apply, val_main_v34_apply, val_main_call1_v0_apply, val_main_v33_apply, e, v32_read, v31_read, v16_read,
    v1_read, h2, select_ofBool]
  unfold masked refMask
  have ite_iff : ∀ (p q : Prop) [Decidable p] [Decidable q] (a b : EReal), (p ↔ q) → (if p then a else b) = if q then a else b := by
    intro p q _ _ a b h
    by_cases hp : p
    · rw [if_pos hp, if_pos (h.mp hp)]
    · rw [if_neg hp, if_neg (fun hq => hp (h.mpr hq))]
  by_cases he : ∃ j, semi x0 x1 i j
  · rw [if_pos he, select_ofBool]
    have he' : ∃ k, (¬same (labOf x1) i k ∧ k ≠ i) ∧ sim (embOf x0) i k < posLeast (sim (embOf x0) i) (same (labOf x1) i) i big := he
    exact ite_iff _ _ _ _ ⟨fun h => by rw [if_pos he']; exact h, fun h => by rw [if_pos he'] at h; exact h⟩
  · rw [if_neg he, select_ofBool]
    have he' : ¬∃ k, (¬same (labOf x1) i k ∧ k ≠ i) ∧ sim (embOf x0) i k < posLeast (sim (embOf x0) i) (same (labOf x1) i) i big := he
    exact ite_iff _ _ _ _ ⟨fun h => by rw [if_neg he']; exact h, fun h => by rw [if_neg he'] at h; exact h⟩

end

end Cert.Hard

end
-- ==== Proof.RefLoss.lean ====
module

public import proofs.«01_k».proof.Proof.RefRow

/-!
The reference's loss: each row's, and their mean over the rows that take part.
-/

@[expose] public section

set_option maxRecDepth 16384

open Classical
open Idealize.ShloMosaic
open Cert.ReferenceIdeal Cert.ReferenceIdeal.Gen Cert.ReferenceIdeal.Read

namespace Cert.Hard

noncomputable section

variable (x0 : (⟨S4096x64, .f32⟩ : BufTy).Contents (Elt Ideal)) (x1 : (⟨S4096, .i32⟩ : BufTy).Contents (Elt Ideal))

/-- The sixteen largest masked entries of a row, as reals. -/
def largest (i : Fin 4096) (k : ℕ) : ℝ :=
  if h : k < 16 then (val_main_values (F := Ideal) x0 x1 (ix2 i ⟨k, h⟩)).toReal else 0

/-- The reference's selected values are real. -/
theorem largest_coe (hA : Fine (embOf x0)) (i : Fin 4096) (k : Fin 16) :
    val_main_values (F := Ideal) x0 x1 (ix2 i k) = (largest x0 x1 i k.val : EReal) := by
  obtain ⟨σ, -, -, h⟩ := topK_perm (val_main_v35 (F := Ideal) x0 x1) i
  have hk : val_main_values (F := Ideal) x0 x1 (ix2 i k) = masked (embOf x0) (labOf x1) i (σ ⟨k.val, by omega⟩) := by
    unfold val_main_values
    rw [h k, v35_read]
  obtain ⟨a, ha⟩ := masked_real (embOf x0) (labOf x1) hA i (σ ⟨k.val, by omega⟩)
  unfold largest
  rw [dif_pos k.isLt, Fin.eta, hk, ha, EReal.toReal_coe]

/-- The reference's selected values are the sixteen largest of the masked row, in order. -/
theorem largest_lists (hA : Fine (embOf x0)) (i : Fin 4096) : Lists (embOf x0) (labOf x1) i (largest x0 x1 i) := by
  intro j hj θ
  rw [← largest_coe x0 x1 hA i ⟨j, hj⟩]
  have h := topK_count (val_main_v35 (F := Ideal) x0 x1) i ⟨j, hj⟩ θ
  simp only [v35_read] at h
  refine h.trans (iff_of_eq (congrArg (j < ·) ?_))
  congr 1

/-- The first selected value is the largest. -/
theorem largest_le (hA : Fine (embOf x0)) (i : Fin 4096) (k : ℕ) (hk : k < 16) : largest x0 x1 i k ≤ largest x0 x1 i 0 := by
  have h := largest_lists x0 x1 hA i
  have h1 := (h k hk (largest x0 x1 i k : EReal)).mp le_rfl
  have h2 := (h 0 (by omega) (largest x0 x1 i k : EReal)).mpr (by omega)
  exact EReal.coe_le_coe_iff.mp h2

variable (T : ℝ) (hT0 : 0 < T) (hT : Ideal.ofBits .f32 1032805417#32 = (T : EReal))

include hT0 hT in
/-- The logits are the selected values over the temperature. -/
theorem v37_read (hA : Fine (embOf x0)) (i : Fin 4096) (k : Fin 16) :
    val_main_v37 (F := Ideal) x0 x1 (ix2 i k) = ((largest x0 x1 i k.val / T : ℝ) : EReal) := by
  have h : val_main_v36 (F := Ideal) (ix2 i k) = (T : EReal) := by
    exact Eq.trans (by pointwise [val_main_v36, val_main_cst_7]) hT
  rw [val_main_v37_apply, largest_coe x0 x1 hA, h]
  show Ideal.div _ _ = _
  rw [Ideal.div_coe (ne_of_gt hT0), ← EReal.coe_mul]
  congr 1
  ring

include hT0 hT in
/-- The largest logit is the first. -/
theorem v38_read (hA : Fine (embOf x0)) (i : Fin 4096) :
    val_main_v38 (F := Ideal) x0 x1 (ix1 i) = ((largest x0 x1 i 0 / T : ℝ) : EReal) := by
  have h : val_main_v38 (F := Ideal) x0 x1 (ix1 i) = Finset.fold max (val_main_cst_8 (F := Ideal) (Shape.Idx.first h_S_))
      (fun k : Fin 16 => val_main_v37 (F := Ideal) x0 x1 (ix2 i k)) Finset.univ := by
    pointwise [val_main_v38]
  have hb : val_main_cst_8 (F := Ideal) (Shape.Idx.first h_S_) = ⊥ := neg_infinity
  rw [h, hb]
  apply le_antisymm
  · rw [Finset.fold_max_le]
    refine ⟨bot_le, fun k _ => ?_⟩
    rw [v37_read x0 x1 T hT0 hT hA, EReal.coe_le_coe_iff]
    exact div_le_div_of_nonneg_right (largest_le x0 x1 hA i k.val k.isLt) (le_of_lt hT0)
  · rw [Finset.le_fold_max]
    exact Or.inr ⟨0, Finset.mem_univ _, by rw [v37_read x0 x1 T hT0 hT hA]; exact le_rfl⟩

include hT0 hT in
/-- The log-sum-exp as the reference writes it, about the largest logit. -/
theorem v45_read (hA : Fine (embOf x0)) (i : Fin 4096) :
    val_main_v45 (F := Ideal) x0 x1 (ix1 i) = ((largest x0 x1 i 0 / T : ℝ) : EReal)
      + Ideal.log ((∑ j ∈ Finset.range 16, Real.exp ((largest x0 x1 i j - largest x0 x1 i 0) / T) : ℝ) : EReal) := by
  have h42 : ∀ k : Fin 16, val_main_v42 (F := Ideal) x0 x1 (idx_main_v43 (ix1 i) k)
      = ((Real.exp ((largest x0 x1 i k.val - largest x0 x1 i 0) / T) : ℝ) : EReal) := by
    intro k
    have e : idx_main_v43 (ix1 i) k = ix2 i k := funext fun a => match a with | ⟨0, _⟩ => rfl | ⟨1, _⟩ => rfl
    have e2 : idx_main_v39 (idx_main_v40 (ix2 i k)) = ix1 i := funext fun a => match a with | ⟨0, _⟩ => rfl
    rw [e, val_main_v42_apply, val_main_v41_apply, val_main_v40_apply, val_main_v39_apply, e2, v38_read x0 x1 T hT0 hT hA,
      v37_read x0 x1 T hT0 hT hA]
    show Ideal.exp (((largest x0 x1 i k.val / T : ℝ) : EReal) - ((largest x0 x1 i 0 / T : ℝ) : EReal)) = _
    rw [← EReal.coe_sub, Ideal.exp_coe]
    congr 2
    ring
  have h43 : val_main_v43 (F := Ideal) x0 x1 (ix1 i)
      = ((∑ j ∈ Finset.range 16, Real.exp ((largest x0 x1 i j - largest x0 x1 i 0) / T) : ℝ) : EReal) := by
    have hz : val_main_cst_9 (F := Ideal) (Shape.Idx.first h_S_) = (0 : EReal) := by
      show Ideal.ofBits .f32 0#32 = 0
      simp [Ideal.ofBits, Ideal.ieee, -EReal.coe_mul]
    rw [val_main_v43_apply, hz, zero_add, Finset.sum_congr rfl fun k _ => h42 k, Finset.sum_range, real_sum]
  rw [val_main_v45_apply, val_main_v44_apply, h43, v38_read x0 x1 T hT0 hT hA]
  rfl

include hT0 hT in
/-- It is the logarithm of the sum of the exponentials of the logits. -/
theorem v45_plain (hA : Fine (embOf x0)) (i : Fin 4096) :
    val_main_v45 (F := Ideal) x0 x1 (ix1 i)
      = Ideal.log ((∑ j ∈ Finset.range 16, Real.exp (largest x0 x1 i j / T) : ℝ) : EReal) := by
  have hs : 0 < ∑ j ∈ Finset.range 16, Real.exp ((largest x0 x1 i j - largest x0 x1 i 0) / T) :=
    Finset.sum_pos (fun j _ => Real.exp_pos _) ⟨0, by simp⟩
  have hl : ∀ x : ℝ, 0 < x → Ideal.log (x : EReal) = (Real.log x : EReal) := fun x hx => if_neg (not_le.mpr hx)
  have he : ∑ j ∈ Finset.range 16, Real.exp (largest x0 x1 i j / T)
      = Real.exp (largest x0 x1 i 0 / T) * ∑ j ∈ Finset.range 16, Real.exp ((largest x0 x1 i j - largest x0 x1 i 0) / T) := by
    rw [Finset.mul_sum]
    refine Finset.sum_congr rfl fun j _ => ?_
    rw [← Real.exp_add]
    congr 1
    ring
  rw [v45_read x0 x1 T hT0 hT hA, he, hl _ (mul_pos (Real.exp_pos _) hs), hl _ hs, ← EReal.coe_add,
    Real.log_mul (Real.exp_ne_zero _) hs.ne', Real.log_exp]

/-- The larger of a small count and one, as a number. -/
theorem maxsi_one (n : ℕ) (hn : n ≤ 4096) :
    FloatOps.sitofp (F := Ideal) .f32 (IntOp.maxsi (BitVec.ofNat 32 n) 1#32) = (((max n 1 : ℕ) : ℝ) : EReal) := by
  have h : (BitVec.ofNat 32 n).toInt = n := by
    rw [BitVec.toInt_eq_toNat_of_lt] <;> rw [BitVec.toNat_ofNat] <;> omega
  show (((IntOp.maxsi (BitVec.ofNat 32 n) 1#32).toInt : ℝ) : EReal) = _
  have h2 : (IntOp.maxsi (BitVec.ofNat 32 n) 1#32).toInt = ((max n 1 : ℕ) : ℤ) := by
    unfold IntOp.maxsi
    rw [BitVec.slt_eq_decide, h]
    have h1 : (1#32).toInt = 1 := by decide
    rw [h1]
    simp only [decide_eq_true_eq]
    split_ifs with hc
    · rw [h, max_eq_left (by omega)]
    · rw [h1, max_eq_right (by omega)]
      rfl
  rw [h2]
  norm_cast

/-- The sum of a row's positive similarities. -/
theorem v47_read (i : Fin 4096) : val_main_v47 (F := Ideal) x0 x1 (ix1 i) = posSum (embOf x0) (labOf x1) i := by
  have hz : val_main_cst_11 (F := Ideal) (Shape.Idx.first h_S_) = (0 : EReal) := by
    show Ideal.ofBits .f32 0#32 = 0
    simp [Ideal.ofBits, Ideal.ieee, -EReal.coe_mul]
  rw [val_main_v47_apply, hz, zero_add]
  refine Finset.sum_congr rfl fun j _ => ?_
  have e : idx_main_v47 (ix1 i) j = ix2 i j := funext fun a => match a with | ⟨0, _⟩ => rfl | ⟨1, _⟩ => rfl
  have h0 : val_main_call3_v1 (F := Ideal) (ix2 i j) = (0 : EReal) := by
    refine Eq.trans (b := Ideal.ofBits .f32 0#32) ?_ (by simp [Ideal.ofBits, Ideal.ieee, -EReal.coe_mul])
    rw [val_main_call3_v1_apply, val_main_call3_v0_apply, val_main_cst_10_apply]
    rfl
  rw [e, val_main_v46_apply, v13_read, v1_read, h0, select_ofBool]

include hT0 hT in
/-- The reference's loss of a row. -/
theorem v55_read (hA : Fine (embOf x0)) (i : Fin 4096) :
    val_main_v55 (F := Ideal) x0 x1 (ix1 i) = rowLoss (embOf x0) (labOf x1) (largest x0 x1) T i := by
  have h48 : val_main_v48 (F := Ideal) (ix1 i) = 1#32 := by
    rw [val_main_v48_apply, val_main_c_12_apply]
  have h53 : val_main_v53 (F := Ideal) (ix1 i) = (T : EReal) := by
    rw [val_main_v53_apply, val_main_cst_13_apply, ← hT]
    rfl
  rw [val_main_v55_apply, val_main_v54_apply, val_main_v52_apply, val_main_v51_apply, val_main_v50_apply, val_main_v49_apply,
    v47_read, v18_read, h48, h53, maxsi_one _ (posCount_le _ _), v45_read x0 x1 T hT0 hT hA]
  rfl

/-- How many rows take part. -/
def parts (L : Lab) : ℕ := ∑ i, if takesPart L i then 1 else 0

/-- The loss: the mean over the rows that take part. -/
def loss (A : Emb) (L : Lab) (g : Fin 4096 → ℕ → ℝ) (T : ℝ) : EReal :=
  Ideal.div (∑ i, if takesPart L i then rowLoss A L g T i else 0) (((max (parts L) 1 : ℕ) : ℝ) : EReal)

/-- At most all rows take part. -/
theorem parts_le (L : Lab) : parts L ≤ 4096 := by
  unfold parts
  rw [← Finset.card_filter]
  exact (Finset.card_filter_le _ _).trans (by rw [Finset.card_univ, Fintype.card_fin])

include hT0 hT in
/-- The reference's result. -/
theorem v63_read (hA : Fine (embOf x0)) :
    val_main_v63 (F := Ideal) x0 x1 (ix1 0) = loss (embOf x0) (labOf x1) (largest x0 x1) T := by
  have h : val_main_v63 (F := Ideal) x0 x1 (ix1 0) = Ideal.div
      (val_main_cst_16 (F := Ideal) (Shape.Idx.first h_S_) + ∑ x : Fin 4096, Scalar.select (val_main_v25 (F := Ideal) x1 (ix1 x))
        (val_main_v55 (F := Ideal) x0 x1 (ix1 x)) (val_main_call4_v1 (F := Ideal) (ix1 x)))
      (FloatOps.sitofp (F := Ideal) .f32 (IntOp.maxsi (Finset.fold IntOp.addi (val_main_c_14 (F := Ideal) (Shape.Idx.first h_S_))
        (fun k : Fin 4096 => BitVec.setWidth 32 (val_main_v25 (F := Ideal) x1 (ix1 k))) Finset.univ) (val_main_c_17 (F := Ideal) ix0))) := by
    pointwise [val_main_v63, val_main_v62, val_main_v61, val_main_v60, val_main_v59, val_main_v58, val_main_v57, val_main_v56]
  have hz : val_main_cst_16 (F := Ideal) (Shape.Idx.first h_S_) = (0 : EReal) := by
    show Ideal.ofBits .f32 0#32 = 0
    simp [Ideal.ofBits, Ideal.ieee, -EReal.coe_mul]
  have h4 : ∀ x, val_main_call4_v1 (F := Ideal) (ix1 x) = (0 : EReal) := by
    intro x
    refine Eq.trans (b := Ideal.ofBits .f32 0#32) ?_ (by simp [Ideal.ofBits, Ideal.ieee, -EReal.coe_mul])
    rw [val_main_call4_v1_apply, val_main_call4_v0_apply, val_main_cst_15_apply]
    rfl
  rw [h, hz, zero_add, val_main_c_14_apply, val_main_c_17_apply]
  simp only [v25_read, select_ofBool, h4, v55_read x0 x1 T hT0 hT hA]
  rw [fold_count]
  have hp : (Finset.univ.filter fun k => takesPart (labOf x1) k).card = parts (labOf x1) := by
    unfold parts
    rw [Finset.card_filter]
  rw [hp, maxsi_one _ (parts_le _)]
  rfl

end

end Cert.Hard

end
-- ==== Proof.Total.lean ====
module

public import proofs.«01_k».proof.Proof.RefLoss
public import proofs.«01_k».proof.Proof.Gen.KernelIdeal.Value
public import Idealize.ShloMosaic.Lib.Pipeline.ValueKit

/-!
The kernel's two running totals over its sixteen points, and its result.
-/

@[expose] public section

set_option maxRecDepth 16384

open Classical
open Idealize.ShloMosaic Idealize.ShloMosaic.TcCoe Idealize.SL.Sem
open Idealize.ShloMosaic.Pipeline (Dat)
open Cert.KernelIdeal Cert.KernelIdeal.Gen

namespace Cert.Hard

noncomputable section

variable (m : (ℓ : Loc nD τ sig) → Buf (Elt Ideal) ℓ)

/-- The blocks each point is given, for all points. -/
theorem kidx : ∀ t : Fin cfg0.N, win0_0.index t = ![t.val, 0] ∧ win0_1.index t = ![0, 0] ∧ win0_2.index t = ![t.val, 0]
    ∧ win0_3.index t = ![0, 0] ∧ (grid0.coords t 0).val = t.val :=
  (by decide +kernel : ∀ t : Fin grid0.N, _)

/-- The kernel's two arguments. -/
abbrev kEmb (c : Dev nD) : Emb := fun i x => m ((c : Thread nD τ).loc main_arg0) (ix2 i x)
/-- The labels as the kernel's second argument holds them. -/
abbrev kLab (c : Dev nD) : Lab := fun i => m ((c : Thread nD τ).loc main_arg1) (ix1 i)

/-- There are sixteen points. -/
theorem t_lt (t : Fin cfg0.N) : t.val < 16 := lt_of_lt_of_eq t.isLt (show cfg0.N = 16 from N_0)

/-- The blocks a point is given are the rows and columns of the two arguments. -/
theorem kblk (c : Dev nD) (t : Fin cfg0.N) : Blk (kEmb m c) (kLab m c) ⟨t.val, t_lt t⟩ (grid0.coords t)
    (iblk m c 0 t) (iblk m c 1 t) (iblk m c 2 t) (iblk m c 3 t) where
  point := (kidx t).2.2.2.2
  emb r x := by
    unfold rowOf
    blk_ext [iblk, V, kidx t]
  embT x j := by
    refine Eq.trans (b := V m c main_v0 (ix2 x j)) (by blk_ext [iblk, kidx t]) ?_
    entry_read
    pointwise
  labC r := by
    refine Eq.trans (b := V m c main_v1 (ix2 (rowOf ⟨t.val, t_lt t⟩ r) 0)) (by unfold rowOf; blk_ext [iblk, kidx t]) ?_
    entry_read
    pointwise
  labR j := by
    refine Eq.trans (b := V m c main_v2 (ix2 0 j)) (by blk_ext [iblk, kidx t]) ?_
    entry_read
    pointwise

variable (T : ℝ)

/-- The two totals after a point. -/
theorem totals (c : Dev nD) (hA : Fine (kEmb m c)) (g : Fin 4096 → ℕ → ℝ) (hg : ∀ k, Lists (kEmb m c) (kLab m c) k (g k))
    (hT0 : 0 < T) (hT : Ideal.ofBits .f32 1032805417#32 = (T : EReal)) (n : ℕ) (hn : n < cfg0.N) :
    (outsAt0 m c n hn).2 cell0 = ∑ b ∈ Finset.range (n + 1), ∑ r : Fin 256,
        (if takesPart (kLab m c) (rowOf (Fin.ofNat 16 b) r) then rowLoss (kEmb m c) (kLab m c) g T (rowOf (Fin.ofNat 16 b) r) else 0)
    ∧ (outsAt0 m c n hn).2 cell1 = ((∑ b ∈ Finset.range (n + 1), ∑ r : Fin 256,
        (if takesPart (kLab m c) (rowOf (Fin.ofNat 16 b) r) then 1 else 0) : ℕ) : ℝ) := by
  have hz : (FloatOps.ofBits FTy.f32 0#32 : Ideal .f32) = (0 : EReal) := by
    show Ideal.ofBits .f32 0#32 = 0
    simp [Ideal.ofBits, Ideal.ieee, -EReal.coe_mul]
  have hb : ∀ k (hk : k < cfg0.N), (⟨k, t_lt ⟨k, hk⟩⟩ : Fin 16) = Fin.ofNat 16 k := fun k hk =>
    Fin.ext (Nat.mod_eq_of_lt (t_lt ⟨k, hk⟩)).symm
  induction n with
  | zero =>
    have B := kblk m c ⟨0, hn⟩
    rw [hb 0 hn] at B
    have e := congrArg Prod.snd (outsAt0_A m c ⟨0, hn⟩ rfl (by show ¬ 0 % 16 = 15; omega))
    have s := sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      (ms0_3 ⟨0, hn⟩) (hs0_3 ⟨0, hn⟩) (ms0_4 ⟨0, hn⟩) (hs0_4 ⟨0, hn⟩) scM0_0 (Memref.isWhole_whole _)
      ((hcond0_0 ⟨0, hn⟩).mpr rfl) (fun h => absurd ((hcond0_1 ⟨0, hn⟩).mp h) (by show ¬ 0 % 16 = 15; omega))
      (iblk m c 0 ⟨0, hn⟩) (iblk m c 1 ⟨0, hn⟩) (iblk m c 2 ⟨0, hn⟩) (iblk m c 3 ⟨0, hn⟩)
    rw [hz, B.sumNew hA g hg T hT0 hT, B.cntNew] at s
    rw [Finset.sum_range_one, Finset.sum_range_one]
    exact ⟨(congrFun e cell0).trans (s.1.trans (zero_add _)), (congrFun e cell1).trans (s.2.trans (zero_add _))⟩
  | succ n ih =>
    obtain ⟨i0, i1⟩ := ih (by omega)
    have hN := t_lt ⟨n + 1, hn⟩
    have hN' : n + 1 < 16 := hN
    have B := kblk m c ⟨n + 1, hn⟩
    rw [hb (n + 1) hn] at B
    have h0 : ¬ (n + 1) % 16 = 0 := by omega
    have key : (outsAt0 m c (n + 1) hn).2 cell0 = sumNew (grid0.coords ⟨n + 1, hn⟩) (iblk m c 0 ⟨n + 1, hn⟩) (iblk m c 1 ⟨n + 1, hn⟩)
          (iblk m c 2 ⟨n + 1, hn⟩) (iblk m c 3 ⟨n + 1, hn⟩) ((outsAt0 m c n (by omega)).2 cell0)
        ∧ (outsAt0 m c (n + 1) hn).2 cell1 = cntNew (iblk m c 2 ⟨n + 1, hn⟩) (iblk m c 3 ⟨n + 1, hn⟩) ((outsAt0 m c n (by omega)).2 cell1) := by
      by_cases h1 : (n + 1) % 16 = 15
      · have e := congrArg Prod.snd (outsAt0_C m c ⟨n + 1, hn⟩ h0 h1)
        have s := sout_C c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
          scM0_0 (Memref.isWhole_whole _) (fun h => h0 ((hcond0_0 ⟨n + 1, hn⟩).mp h)) ((hcond0_1 ⟨n + 1, hn⟩).mpr h1)
          (iblk m c 0 ⟨n + 1, hn⟩) (iblk m c 1 ⟨n + 1, hn⟩) (iblk m c 2 ⟨n + 1, hn⟩) (iblk m c 3 ⟨n + 1, hn⟩) (outsAt0 m c n (by omega)).2
        exact ⟨(congrFun e cell0).trans s.1, (congrFun e cell1).trans s.2⟩
      · have e := congrArg Prod.snd (outsAt0_B m c ⟨n + 1, hn⟩ h0 h1)
        have s := sout_B c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
          scM0_0 (Memref.isWhole_whole _) (fun h => h0 ((hcond0_0 ⟨n + 1, hn⟩).mp h)) (fun h => h1 ((hcond0_1 ⟨n + 1, hn⟩).mp h))
          (iblk m c 0 ⟨n + 1, hn⟩) (iblk m c 1 ⟨n + 1, hn⟩) (iblk m c 2 ⟨n + 1, hn⟩) (iblk m c 3 ⟨n + 1, hn⟩) (outsAt0 m c n (by omega)).2
        exact ⟨(congrFun e cell0).trans s.1, (congrFun e cell1).trans s.2⟩
    rw [B.sumNew hA g hg T hT0 hT, B.cntNew, i0, i1] at key
    refine ⟨key.1.trans ?_, key.2.trans ?_⟩
    · rw [Finset.sum_range_succ _ (n + 1)]
    · rw [Finset.sum_range_succ _ (n + 1), Nat.cast_add, EReal.coe_add]

/-- Rows, block by block. -/
theorem sum_rows {M : Type} [AddCommMonoid M] (f : Fin 4096 → M) :
    ∑ b ∈ Finset.range 16, ∑ r : Fin 256, f (rowOf (Fin.ofNat 16 b) r) = ∑ i, f i := by
  rw [Finset.sum_range fun b => ∑ r : Fin 256, f (rowOf (Fin.ofNat 16 b) r), ← Fintype.sum_prod_type',
    ← Equiv.sum_comp (finProdFinEquiv (m := 16) (n := 256))]
  refine Finset.sum_congr rfl fun p _ => congrArg f (Fin.ext ?_)
  have h : (Fin.ofNat 16 p.1.val).val = p.1.val := Nat.mod_eq_of_lt p.1.isLt
  show 256 * (Fin.ofNat 16 p.1.val).val + p.2.val = p.2.val + 256 * p.1.val
  omega

/-- What the last point stores. -/
theorem last_out (c : Dev nD) (t : Fin cfg0.N) (h1 : t.val % 16 = 15) :
    (outsAt0 m c t.val t.isLt).1 = fun _ => k0_pay1 (F := Ideal) ((outsAt0 m c t.val t.isLt).2 cell0) ((outsAt0 m c t.val t.isLt).2 cell1) := by
  have h0 : ¬ t.val % 16 = 0 := by omega
  have e := outsAt0_C m c t h0 h1
  have s := sout_C c (grid0.coords t) (ms0_0 t) (hs0_0 t) (ms0_1 t) (hs0_1 t) (ms0_2 t) (hs0_2 t) (ms0_3 t) (hs0_3 t) (ms0_4 t) (hs0_4 t)
    scM0_0 (Memref.isWhole_whole _) (fun h => h0 ((hcond0_0 t).mp h)) ((hcond0_1 t).mpr h1)
    (iblk m c 0 t) (iblk m c 1 t) (iblk m c 2 t) (iblk m c 3 t) (outsAt0 m c (t.val - 1) (Nat.lt_of_le_of_lt (Nat.sub_le _ _) t.isLt)).2
  have o := out_C c (grid0.coords t) (ms0_0 t) (hs0_0 t) (ms0_1 t) (hs0_1 t) (ms0_2 t) (hs0_2 t) (ms0_3 t) (hs0_3 t) (ms0_4 t) (hs0_4 t)
    scM0_0 (Memref.isWhole_whole _) (fun h => h0 ((hcond0_0 t).mp h)) ((hcond0_1 t).mpr h1)
    (iblk m c 0 t) (iblk m c 1 t) (iblk m c 2 t) (iblk m c 3 t) (outsAt0 m c (t.val - 1) (Nat.lt_of_le_of_lt (Nat.sub_le _ _) t.isLt)).2
  rw [e]
  refine o.trans ?_
  rw [← s.1, ← s.2]

/-- The result is the sum over the count, the count at least one. -/
theorem pay1_read (a : Ideal .f32) (n : ℕ) : k0_pay1 (F := Ideal) a (((n : ℝ) : EReal) : Ideal .f32) = Ideal.div a (((max n 1 : ℕ) : ℝ) : EReal) := by
  have h1 : Ideal.ofBits .f32 0x3F800000#32 = ((1 : ℝ) : EReal) := by
    simp [Ideal.ofBits, Ideal.ieee, -EReal.coe_mul]
    try norm_num
  show Ideal.div a (max (((n : ℝ) : EReal)) (Ideal.ofBits .f32 0x3F800000#32)) = _
  rw [h1, ← EReal.coe_strictMono.monotone.map_max]
  congr 2
  push_cast
  rfl

/-- The kernel's result. -/
theorem kernel_result (c : Dev nD) (hA : Fine (kEmb m c)) (g : Fin 4096 → ℕ → ℝ) (hg : ∀ k, Lists (kEmb m c) (kLab m c) k (g k))
    (hT0 : 0 < T) (hT : Ideal.ofBits .f32 1032805417#32 = (T : EReal)) :
    (dats m 0 c).arrAt 4 cfg0.N = fun _ => loss (kEmb m c) (kLab m c) g T := by
  refine (dats m 0 c).arrAt_eq_of_after_last 4 t0_15 (by decide +kernel) _ fun j => ?_
  blk_simp
  have h15 : t0_15.val = 15 := by decide +kernel
  rw [after0_4, last_out m c t0_15 (by rw [h15])]
  obtain ⟨a, b⟩ := totals m T c hA g hg hT0 hT t0_15.val t0_15.isLt
  rw [a, b, pay1_read]
  unfold loss parts
  rw [h15, ← sum_rows, ← sum_rows]

end

end Cert.Hard

end
-- ==== Proof.Norms.lean ====
module

public import proofs.«01_k».proof.Proof.Total
public import proofs.«01_k».proof.Pre_norms_below

/-!
What the precondition gives: every similarity is a real number below the sentinel.
-/

@[expose] public section

set_option maxRecDepth 16384

open Classical
open Idealize.ShloMosaic

namespace Cert.Hard

noncomputable section

/-- The sentinel is one thousand million. -/
theorem big_real : big = ((1000000000 : ℝ) : EReal) := by
  show Ideal.ofBits .f32 1315859240#32 = _
  simp [Ideal.ofBits, Ideal.ieee, -EReal.coe_mul]
  norm_num

/-- The precondition, row by row. -/
theorem pre_row [Cert.Pre_norms_below.Facts] (x0 : FVec Ideal Cert.Pre_norms_below.S4096x64 .f32) (x1 : IVec Cert.Pre_norms_below.S4096 32)
    (h : Cert.Pre_norms_below.fn (F := Ideal) x0 x1 = fun _ => 1#1) (i : Fin 4096) :
    ∑ x : Fin 64, x0 (ix2 i x) * x0 (ix2 i x) < big := by
  have e : Cert.Pre_norms_below.fn (F := Ideal) x0 x1 (ix1 i)
      = FloatOps.cmpf (F := Ideal) (φ := .f32) .olt (Ideal.ofBits .f32 0#32 + ∑ x : Fin 64, x0 (ix2 i x) * x0 (ix2 i x)) big := by
    pointwise [Cert.Pre_norms_below.fn]
  rw [h] at e
  have hz : Ideal.ofBits .f32 0#32 = (0 : EReal) := by simp [Ideal.ofBits, Ideal.ieee, -EReal.coe_mul]
  rw [hz, zero_add] at e
  by_contra hc
  have e2 : FloatOps.cmpf (F := Ideal) (φ := .f32) .olt (∑ x : Fin 64, x0 (ix2 i x) * x0 (ix2 i x)) big = 0#1 := by
    show BitVec.ofBool (decide (_ < _)) = _
    rw [decide_eq_false hc]
    rfl
  have e3 : (1#1 : BitVec 1) = 0#1 := e.trans e2
  exact absurd e3 (by decide)

/-- An extended real times itself is never negative. -/
theorem square_nonneg (a : EReal) : 0 ≤ a * a := by
  induction a using EReal.rec with
  | bot => simp
  | coe a => rw [← EReal.coe_mul]; exact EReal.coe_nonneg.mpr (mul_self_nonneg a)
  | top => simp

/-- Rows whose squared norms lie below the sentinel have real similarities below it. -/
theorem fine_of_norms (A : Emb) (h : ∀ i, ∑ x, A i x * A i x < big) : Fine A := by
  have hr : ∀ i x, ∃ a : ℝ, A i x = (a : EReal) := by
    intro i x
    have h1 : A i x * A i x < big := lt_of_le_of_lt
      (Finset.single_le_sum (f := fun x => A i x * A i x) (fun y _ => square_nonneg (A i y)) (Finset.mem_univ x)) (h i)
    generalize A i x = a at h1
    induction a using EReal.rec with
    | bot => exact absurd h1 (by simp)
    | coe a => exact ⟨a, rfl⟩
    | top => exact absurd h1 (by simp)
  choose a ha using hr
  have hs : ∀ i j, sim A i j = ((∑ x, a i x * a j x : ℝ) : EReal) := by
    intro i j
    unfold sim
    rw [real_sum]
    exact Finset.sum_congr rfl fun x _ => by rw [ha, ha, EReal.coe_mul]
  have hn : ∀ i, ∑ x, a i x * a i x < 1000000000 := by
    intro i
    have h1 : sim A i i < big := h i
    rw [hs, big_real, EReal.coe_lt_coe_iff] at h1
    exact h1
  refine ⟨fun i j => ⟨_, hs i j⟩, fun i j => ?_⟩
  rw [hs, big_real, EReal.coe_lt_coe_iff]
  have h2 : ∑ x, a i x * a j x ≤ ∑ x, (a i x * a i x + a j x * a j x) / 2 :=
    Finset.sum_le_sum fun x _ => by nlinarith [sq_nonneg (a i x - a j x)]
  rw [← Finset.sum_div, Finset.sum_add_distrib] at h2
  linarith [hn i, hn j]

end

end Cert.Hard

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.Gen.KernelIdeal.Value
public import proofs.«01_k».proof.Proof.Norms
public import Idealize.ShloMosaic.Adequacy
public import Idealize.ShloMosaic.Init

@[expose] public section

noncomputable section

namespace Cert.Proof

open Idealize.ShloMosaic Idealize.SL.Sem Cert.Kernel

/-- The reference runs, leaves its arguments as they were, and ends with every counter at zero, since it declares none. -/
theorem frameRef : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The side conditions that the precondition's printed text states. -/
theorem preFacts : Cert.Pre_norms_below.Facts where
  reducesTo_S4096x64_S4096_d1 := by decide
  h_S_ := by decide
  bcast_S_S4096 := by decide

/-- Under the precondition, the reference's result is the one the kernel leaves. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : letI := preFacts; Cert.Pre_norms_below.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v63 m' c
      = (Cert.KernelIdeal.Gen.dats m 0 c).arrAt 4 Cert.KernelIdeal.cfg0.N := by
  obtain ⟨T, hT0, hT⟩ := Cert.Hard.temp_pos
  have hA : Cert.Hard.Fine (Cert.Hard.kEmb m c) :=
    Cert.Hard.fine_of_norms _ fun i => haveI := preFacts; Cert.Hard.pre_row _ _ hp i
  rw [Cert.ReferenceIdeal.Read.val_main_v63_eq, h0, h1]
  refine Eq.trans ?_ (Cert.Hard.kernel_result m T c hA _ (Cert.Hard.largest_lists _ _ hA) hT0 hT).symm
  funext j
  have hj : j = ix1 0 := funext fun a => by fin_cases a; exact Fin.ext (by have h := (j 0).isLt; have h2 : (j 0).val < 1 := h; show (j 0).val = 0; omega)
  rw [hj]
  exact Cert.Hard.v63_read _ _ T hT0 hT hA

/-- The certificate's claim: the three programs run and end quiescent, the idealization preserves the kernel, and the kernel and
    the reference end with equal results. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ,
    fun m ρ _ => Cert.KernelIdeal.Gen.frame m ρ, frameRef, fun m ρ _ => frameRef m ρ trivial, trivial,
    fun m ρ m' ρ' hp h => ⟨fun c => (Cert.KernelIdeal.Gen.dats m 0 c).arrAt 4 Cert.KernelIdeal.cfg0.N,
      Cert.KernelIdeal.Value.run_blocks m ρ,
      (θ_run Cert.ReferenceIdeal.defs _ _).mono
        (fun r hr c => ⟨(hr c).1.trans (same_result m m' c (hp c) (h c).1 (h c).2), (hr c).2⟩)
        (Cert.ReferenceIdeal.Value.run (F := Ideal) m' ρ')⟩⟩

end Cert.Proof

end
